-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.bf16_pair.BufferStatement Cert.KernelIdeal.S4x4096x2x512 Cert.KernelIdeal.S4x4096x1x512
  ∧ IdealRules.bf16_pair.BufferStatement Cert.KernelIdeal.S1x256x2x512 Cert.KernelIdeal.S1x256x1x512
  ∧ IdealRules.named_const.Statement Cert.KernelIdeal.κ "decay0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.KernelIdeal.κ "decay1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.KernelIdeal.κ "decay2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.KernelIdeal.κ "decay3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  ∧ IdealRules.bf16_pair.PackStatement Cert.KernelIdeal.S256x512
  ∧ IdealRules.bf16_pair.Statement Cert.KernelIdeal.S1x256x2x512 Cert.KernelIdeal.S1x256x1x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v94_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x1024 : Shape := ⟨3, ![4, 4096, 1024]⟩
abbrev S1024 : Shape := ⟨1, ![1024]⟩
abbrev S1024x3584 : Shape := ⟨2, ![1024, 3584]⟩
abbrev S512 : Shape := ⟨1, ![512]⟩
abbrev S3x512 : Shape := ⟨2, ![3, 512]⟩
abbrev S1024x1024 : Shape := ⟨2, ![1024, 1024]⟩
abbrev S1024x8 : Shape := ⟨2, ![1024, 8]⟩
abbrev S8 : Shape := ⟨1, ![8]⟩
abbrev S8x1024x8 : Shape := ⟨3, ![8, 1024, 8]⟩
abbrev S8x8 : Shape := ⟨2, ![8, 8]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S128x4 : Shape := ⟨2, ![128, 4]⟩
abbrev S128x4x128 : Shape := ⟨3, ![128, 4, 128]⟩
abbrev S128x512 : Shape := ⟨2, ![128, 512]⟩
abbrev S1024x128 : Shape := ⟨2, ![1024, 128]⟩
abbrev S1 : Shape := ⟨1, ![1]⟩
abbrev S1024x8x8 : Shape := ⟨3, ![1024, 8, 8]⟩
abbrev S1024x64 : Shape := ⟨2, ![1024, 64]⟩
abbrev S2 : Shape := ⟨1, ![2]⟩
abbrev S1x1024 : Shape := ⟨2, ![1, 1024]⟩
abbrev S1x512 : Shape := ⟨2, ![1, 512]⟩
abbrev S4x4096x512 : Shape := ⟨3, ![4, 4096, 512]⟩
abbrev S4x4096x8 : Shape := ⟨3, ![4, 4096, 8]⟩
abbrev S1x256x1024 : Shape := ⟨3, ![1, 256, 1024]⟩
abbrev S256x128 : Shape := ⟨2, ![256, 128]⟩
abbrev S1x256x512 : Shape := ⟨3, ![1, 256, 512]⟩
abbrev S1x256x8 : Shape := ⟨3, ![1, 256, 8]⟩
abbrev S264x512 : Shape := ⟨2, ![264, 512]⟩
abbrev S256x1024 : Shape := ⟨2, ![256, 1024]⟩
abbrev S8x512 : Shape := ⟨2, ![8, 512]⟩
abbrev S256 : Shape := ⟨1, ![256]⟩
abbrev S256x1 : Shape := ⟨2, ![256, 1]⟩
abbrev S256x3584 : Shape := ⟨2, ![256, 3584]⟩
abbrev S256x512 : Shape := ⟨2, ![256, 512]⟩
abbrev S256x256 : Shape := ⟨2, ![256, 256]⟩
abbrev S256x8 : Shape := ⟨2, ![256, 8]⟩

abbrev nBuf : Space → Nat
  | .hbm => 133
  | .vmem => 29
  | .smem => 0
  | _ => 0

abbrev hbmTy0_0 (i : Nat) : BufTy := match i % 128 with
  | 0 => ⟨S4x4096x1024, .f32⟩
  | 1 => ⟨S1024, .f32⟩
  | 2 => ⟨S1024x3584, .f32⟩
  | 3 => ⟨S512, .f32⟩
  | 4 => ⟨S3x512, .f32⟩
  | 5 => ⟨S1024x1024, .f32⟩
  | 6 => ⟨S1024, .f32⟩
  | 7 => ⟨S1024x8, .f32⟩
  | 8 => ⟨S8, .f32⟩
  | 9 => ⟨S8x1024x8, .f32⟩
  | 10 => ⟨S8x8, .f32⟩
  | 11 => ⟨S64, .f32⟩
  | 12 => ⟨S64, .f32⟩
  | 13 => ⟨S_, .f32⟩
  | 14 => ⟨S64, .f32⟩
  | 15 => ⟨S64, .f32⟩
  | 16 => ⟨S_, .f32⟩
  | 17 => ⟨S64, .f32⟩
  | 18 => ⟨S64, .f32⟩
  | 19 => ⟨S4096, .i32⟩
  | 20 => ⟨S4096, .f32⟩
  | 21 => ⟨S4096x1, .f32⟩
  | 22 => ⟨S1x64, .f32⟩
  | 23 => ⟨S4096x64, .f32⟩
  | 24 => ⟨S4096x64, .f32⟩
  | 25 => ⟨S4096x64, .f32⟩
  | 26 => ⟨S4096x64, .f32⟩
  | 27 => ⟨S4096x64, .f32⟩
  | 28 => ⟨S4096x128, .f32⟩
  | 29 => ⟨S4096x64, .f32⟩
  | 30 => ⟨S4096x128, .f32⟩
  | 31 => ⟨S4, .f32⟩
  | 32 => ⟨S_, .f32⟩
  | 33 => ⟨S4, .f32⟩
  | 34 => ⟨S4, .f32⟩
  | 35 => ⟨S_, .f32⟩
  | 36 => ⟨S4, .f32⟩
  | 37 => ⟨S4, .f32⟩
  | 38 => ⟨S4, .f32⟩
  | 39 => ⟨S4, .f32⟩
  | 40 => ⟨S128, .f32⟩
  | 41 => ⟨S128x1, .f32⟩
  | 42 => ⟨S1x128, .f32⟩
  | 43 => ⟨S128x128, .f32⟩
  | 44 => ⟨S128x128, .f32⟩
  | 45 => ⟨S128x128, .f32⟩
  | 46 => ⟨S_, .f32⟩
  | 47 => ⟨S128x128, .f32⟩
  | 48 => ⟨S128x128, .i1⟩
  | 49 => ⟨S1x128x128, .i1⟩
  | 50 => ⟨S4x1x1, .f32⟩
  | 51 => ⟨S_, .f32⟩
  | 52 => ⟨S_, .f32⟩
  | 53 => ⟨S128x128, .f32⟩
  | 54 => ⟨S128x128, .f32⟩
  | 55 => ⟨S1x128x128, .f32⟩
  | 56 => ⟨S4x128x128, .f32⟩
  | 57 => ⟨S4x128x128, .f32⟩
  | 58 => ⟨S4x128x128, .f32⟩
  | 59 => ⟨S4x128x128, .f32⟩
  | 60 => ⟨S_, .f32⟩
  | 61 => ⟨S_, .f32⟩
  | 62 => ⟨S4x128x128, .i1⟩
  | 63 => ⟨S4x128x128, .f32⟩
  | 64 => ⟨S4x128x128, .f32⟩
  | 65 => ⟨S4x1, .f32⟩
  | 66 => ⟨S_, .f32⟩
  | 67 => ⟨S128, .f32⟩
  | 68 => ⟨S128, .f32⟩
  | 69 => ⟨S1x128, .f32⟩
  | 70 => ⟨S4x128, .f32⟩
  | 71 => ⟨S4x128, .f32⟩
  | 72 => ⟨S4x128, .f32⟩
  | 73 => ⟨S4x128, .f32⟩
  | 74 => ⟨S4x1, .f32⟩
  | 75 => ⟨S_, .f32⟩
  | 76 => ⟨S128, .f32⟩
  | 77 => ⟨S128, .f32⟩
  | 78 => ⟨S1x128, .f32⟩
  | 79 => ⟨S4x128, .f32⟩
  | 80 => ⟨S4x128, .f32⟩
  | 81 => ⟨S4x128, .f32⟩
  | 82 => ⟨S4x128, .f32⟩
  | 83 => ⟨S128x4, .f32⟩
  | 84 => ⟨S128x4x128, .f32⟩
  | 85 => ⟨S128x512, .f32⟩
  | 86 => ⟨S128x4, .f32⟩
  | 87 => ⟨S128x4x128, .f32⟩
  | 88 => ⟨S128x512, .f32⟩
  | 89 => ⟨S_, .f32⟩
  | 90 => ⟨S128x512, .f32⟩
  | 91 => ⟨S128x512, .f32⟩
  | 92 => ⟨S_, .f32⟩
  | 93 => ⟨S4x128x128, .f32⟩
  | 94 => ⟨S4x128x128, .f32⟩
  | 95 => ⟨S_, .f32⟩
  | 96 => ⟨S1024x128, .f32⟩
  | 97 => ⟨S_, .i32⟩
  | 98 => ⟨S1, .i32⟩
  | 99 => ⟨S1024x128, .f32⟩
  | 100 => ⟨S1024x8x8, .f32⟩
  | 101 => ⟨S1024x64, .f32⟩
  | 102 => ⟨S_, .i32⟩
  | 103 => ⟨S1, .i32⟩
  | 104 => ⟨S1024x128, .f32⟩
  | 105 => ⟨S1024x128, .bf16⟩
  | 106 => ⟨S1024x128, .f32⟩
  | 107 => ⟨S1024x128, .f32⟩
  | 108 => ⟨S1024x128, .bf16⟩
  | 109 => ⟨S_, .f32⟩
  | 110 => ⟨S1x128, .f32⟩
  | 111 => ⟨S_, .i32⟩
  | 112 => ⟨S1, .i32⟩
  | 113 => ⟨S_, .i32⟩
  | 114 => ⟨S1, .i32⟩
  | 115 => ⟨S2, .i32⟩
  | 116 => ⟨S1x128, .f32⟩
  | 117 => ⟨S64, .f32⟩
  | 118 => ⟨S_, .i32⟩
  | 119 => ⟨S1, .i32⟩
  | 120 => ⟨S_, .i32⟩
  | 121 => ⟨S1, .i32⟩
  | 122 => ⟨S2, .i32⟩
  | 123 => ⟨S1x128, .f32⟩
  | 124 => ⟨S1x1024, .f32⟩
  | 125 => ⟨S1024x3584, .bf16⟩
  | 126 => ⟨S1x512, .f32⟩
  | 127 => ⟨S1024x1024, .bf16⟩
  | _ => ⟨S4x4096x1024, .f32⟩

abbrev hbmTy0_1 (i : Nat) : BufTy := match i % 128 with
  | 0 => ⟨S1x1024, .f32⟩
  | 1 => ⟨S4x4096x1024, .f32⟩
  | 2 => ⟨S4x4096x512, .i32⟩
  | 3 => ⟨S4x4096x8, .f32⟩
  | 4 => ⟨S1x128, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x3584, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S4x128x128, .f32⟩
  | .local _ .vmem, ⟨9, _⟩ => ⟨S128x512, .f32⟩
  | .local _ .vmem, ⟨10, _⟩ => ⟨S128x512, .f32⟩
  | .local _ .vmem, ⟨11, _⟩ => ⟨S1x512, .f32⟩
  | .local _ .vmem, ⟨12, _⟩ => ⟨S3x512, .f32⟩
  | .local _ .vmem, ⟨13, _⟩ => ⟨S1024x1024, .bf16⟩
  | .local _ .vmem, ⟨14, _⟩ => ⟨S1x1024, .f32⟩
  | .local _ .vmem, ⟨15, _⟩ => ⟨S1024x128, .bf16⟩
  | .local _ .vmem, ⟨16, _⟩ => ⟨S1024x128, .bf16⟩
  | .local _ .vmem, ⟨17, _⟩ => ⟨S1x128, .f32⟩
  | .local _ .vmem, ⟨18, _⟩ => ⟨S1x256x1024, .f32⟩
  | .local _ .vmem, ⟨19, _⟩ => ⟨S1x256x1024, .f32⟩
  | .local _ .vmem, ⟨20, _⟩ => ⟨S1x256x512, .i32⟩
  | .local _ .vmem, ⟨21, _⟩ => ⟨S1x256x512, .i32⟩
  | .local _ .vmem, ⟨22, _⟩ => ⟨S1x256x8, .f32⟩
  | .local _ .vmem, ⟨23, _⟩ => ⟨S1x256x8, .f32⟩
  | .local _ .vmem, ⟨24, _⟩ => ⟨S1x128, .f32⟩
  | .local _ .vmem, ⟨25, _⟩ => ⟨S4x128x128, .f32⟩
  | .local _ .vmem, ⟨26, _⟩ => ⟨S264x512, .f32⟩
  | .local _ .vmem, ⟨27, _⟩ => ⟨S256x1024, .bf16⟩
  | .local _ .vmem, ⟨28, _⟩ => ⟨S1x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_call0_v0 : Ref sig .tc := ⟨.hbm, 52, rfl⟩
abbrev main_call0_v1 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_7 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_8 : Ref sig .tc := ⟨.hbm, 89, rfl⟩
abbrev main_v64 : Ref sig .tc := ⟨.hbm, 90, rfl⟩
abbrev main_v65 : Ref sig .tc := ⟨.hbm, 91, rfl⟩
abbrev main_cst_9 : Ref sig .tc := ⟨.hbm, 92, rfl⟩
abbrev main_v66 : Ref sig .tc := ⟨.hbm, 93, rfl⟩
abbrev main_v67 : Ref sig .tc := ⟨.hbm, 94, rfl⟩
abbrev main_cst_10 : Ref sig .tc := ⟨.hbm, 95, rfl⟩
abbrev main_v68 : Ref sig .tc := ⟨.hbm, 96, rfl⟩
abbrev main_c : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_11 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_12 : Ref sig .tc := ⟨.hbm, 109, rfl⟩
abbrev main_v79 : Ref sig .tc := ⟨.hbm, 110, rfl⟩
abbrev main_c_13 : Ref sig .tc := ⟨.hbm, 111, rfl⟩
abbrev main_v80 : Ref sig .tc := ⟨.hbm, 112, rfl⟩
abbrev main_c_14 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_c_15 : Ref sig .tc := ⟨.hbm, 118, rfl⟩
abbrev main_v85 : Ref sig .tc := ⟨.hbm, 119, rfl⟩
abbrev main_c_16 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94_0 : Ref sig .tc := ⟨.hbm, 129, rfl⟩
abbrev main_v94_1 : Ref sig .tc := ⟨.hbm, 130, rfl⟩
abbrev main_v94_2 : Ref sig .tc := ⟨.hbm, 131, rfl⟩
abbrev main_v94_3 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24

abbrev nD : Nat := 1
abbrev τ : Topo := Topo.v7x

variable {F : FTy → Type} [BitOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x512 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x8 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== KernelIdeal.lean ====
abbrev S4x4096x1024 : Shape := ⟨3, ![4, 4096, 1024]⟩
abbrev S1024 : Shape := ⟨1, ![1024]⟩
abbrev S1024x3584 : Shape := ⟨2, ![1024, 3584]⟩
abbrev S512 : Shape := ⟨1, ![512]⟩
abbrev S3x512 : Shape := ⟨2, ![3, 512]⟩
abbrev S1024x1024 : Shape := ⟨2, ![1024, 1024]⟩
abbrev S1024x8 : Shape := ⟨2, ![1024, 8]⟩
abbrev S8 : Shape := ⟨1, ![8]⟩
abbrev S8x1024x8 : Shape := ⟨3, ![8, 1024, 8]⟩
abbrev S8x8 : Shape := ⟨2, ![8, 8]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S128x4 : Shape := ⟨2, ![128, 4]⟩
abbrev S128x4x128 : Shape := ⟨3, ![128, 4, 128]⟩
abbrev S128x512 : Shape := ⟨2, ![128, 512]⟩
abbrev S1024x128 : Shape := ⟨2, ![1024, 128]⟩
abbrev S1 : Shape := ⟨1, ![1]⟩
abbrev S1024x8x8 : Shape := ⟨3, ![1024, 8, 8]⟩
abbrev S1024x64 : Shape := ⟨2, ![1024, 64]⟩
abbrev S2 : Shape := ⟨1, ![2]⟩
abbrev S1x1024 : Shape := ⟨2, ![1, 1024]⟩
abbrev S1x512 : Shape := ⟨2, ![1, 512]⟩
abbrev S4x4096x2x512 : Shape := ⟨4, ![4, 4096, 2, 512]⟩
abbrev S4x4096x8 : Shape := ⟨3, ![4, 4096, 8]⟩
abbrev S4x4096x1x512 : Shape := ⟨4, ![4, 4096, 1, 512]⟩
abbrev S4x4096x512 : Shape := ⟨3, ![4, 4096, 512]⟩
abbrev S1x256x1024 : Shape := ⟨3, ![1, 256, 1024]⟩
abbrev S256x128 : Shape := ⟨2, ![256, 128]⟩
abbrev S1x256x512 : Shape := ⟨3, ![1, 256, 512]⟩
abbrev S1x256x2x512 : Shape := ⟨4, ![1, 256, 2, 512]⟩
abbrev S1x256x1x512 : Shape := ⟨4, ![1, 256, 1, 512]⟩
abbrev S1x256x8 : Shape := ⟨3, ![1, 256, 8]⟩
abbrev S264x512 : Shape := ⟨2, ![264, 512]⟩
abbrev S256x1024 : Shape := ⟨2, ![256, 1024]⟩
abbrev S8x512 : Shape := ⟨2, ![8, 512]⟩
abbrev S256 : Shape := ⟨1, ![256]⟩
abbrev S256x1 : Shape := ⟨2, ![256, 1]⟩
abbrev S256x3584 : Shape := ⟨2, ![256, 3584]⟩
abbrev S256x512 : Shape := ⟨2, ![256, 512]⟩
abbrev S256x256 : Shape := ⟨2, ![256, 256]⟩
abbrev S256x8 : Shape := ⟨2, ![256, 8]⟩

abbrev nBuf : Space → Nat
  | .hbm => 133
  | .vmem => 29
  | .smem => 0
  | _ => 0

abbrev hbmTy0_0 (i : Nat) : BufTy := match i % 128 with
  | 0 => ⟨S4x4096x1024, .f32⟩
  | 1 => ⟨S1024, .f32⟩
  | 2 => ⟨S1024x3584, .f32⟩
  | 3 => ⟨S512, .f32⟩
  | 4 => ⟨S3x512, .f32⟩
  | 5 => ⟨S1024x1024, .f32⟩
  | 6 => ⟨S1024, .f32⟩
  | 7 => ⟨S1024x8, .f32⟩
  | 8 => ⟨S8, .f32⟩
  | 9 => ⟨S8x1024x8, .f32⟩
  | 10 => ⟨S8x8, .f32⟩
  | 11 => ⟨S64, .f32⟩
  | 12 => ⟨S64, .f32⟩
  | 13 => ⟨S_, .f32⟩
  | 14 => ⟨S64, .f32⟩
  | 15 => ⟨S64, .f32⟩
  | 16 => ⟨S_, .f32⟩
  | 17 => ⟨S64, .f32⟩
  | 18 => ⟨S64, .f32⟩
  | 19 => ⟨S4096, .i32⟩
  | 20 => ⟨S4096, .f32⟩
  | 21 => ⟨S4096x1, .f32⟩
  | 22 => ⟨S1x64, .f32⟩
  | 23 => ⟨S4096x64, .f32⟩
  | 24 => ⟨S4096x64, .f32⟩
  | 25 => ⟨S4096x64, .f32⟩
  | 26 => ⟨S4096x64, .f32⟩
  | 27 => ⟨S4096x64, .f32⟩
  | 28 => ⟨S4096x128, .f32⟩
  | 29 => ⟨S4096x64, .f32⟩
  | 30 => ⟨S4096x128, .f32⟩
  | 31 => ⟨S4, .f32⟩
  | 32 => ⟨S_, .f32⟩
  | 33 => ⟨S4, .f32⟩
  | 34 => ⟨S4, .f32⟩
  | 35 => ⟨S_, .f32⟩
  | 36 => ⟨S4, .f32⟩
  | 37 => ⟨S4, .f32⟩
  | 38 => ⟨S4, .f32⟩
  | 39 => ⟨S4, .f32⟩
  | 40 => ⟨S128, .f32⟩
  | 41 => ⟨S128x1, .f32⟩
  | 42 => ⟨S1x128, .f32⟩
  | 43 => ⟨S128x128, .f32⟩
  | 44 => ⟨S128x128, .f32⟩
  | 45 => ⟨S128x128, .f32⟩
  | 46 => ⟨S_, .f32⟩
  | 47 => ⟨S128x128, .f32⟩
  | 48 => ⟨S128x128, .i1⟩
  | 49 => ⟨S1x128x128, .i1⟩
  | 50 => ⟨S4x1x1, .f32⟩
  | 51 => ⟨S_, .f32⟩
  | 52 => ⟨S_, .f32⟩
  | 53 => ⟨S128x128, .f32⟩
  | 54 => ⟨S128x128, .f32⟩
  | 55 => ⟨S1x128x128, .f32⟩
  | 56 => ⟨S4x128x128, .f32⟩
  | 57 => ⟨S4x128x128, .f32⟩
  | 58 => ⟨S4x128x128, .f32⟩
  | 59 => ⟨S4x128x128, .f32⟩
  | 60 => ⟨S_, .f32⟩
  | 61 => ⟨S_, .f32⟩
  | 62 => ⟨S4x128x128, .i1⟩
  | 63 => ⟨S4x128x128, .f32⟩
  | 64 => ⟨S4x128x128, .f32⟩
  | 65 => ⟨S4x1, .f32⟩
  | 66 => ⟨S_, .f32⟩
  | 67 => ⟨S128, .f32⟩
  | 68 => ⟨S128, .f32⟩
  | 69 => ⟨S1x128, .f32⟩
  | 70 => ⟨S4x128, .f32⟩
  | 71 => ⟨S4x128, .f32⟩
  | 72 => ⟨S4x128, .f32⟩
  | 73 => ⟨S4x128, .f32⟩
  | 74 => ⟨S4x1, .f32⟩
  | 75 => ⟨S_, .f32⟩
  | 76 => ⟨S128, .f32⟩
  | 77 => ⟨S128, .f32⟩
  | 78 => ⟨S1x128, .f32⟩
  | 79 => ⟨S4x128, .f32⟩
  | 80 => ⟨S4x128, .f32⟩
  | 81 => ⟨S4x128, .f32⟩
  | 82 => ⟨S4x128, .f32⟩
  | 83 => ⟨S128x4, .f32⟩
  | 84 => ⟨S128x4x128, .f32⟩
  | 85 => ⟨S128x512, .f32⟩
  | 86 => ⟨S128x4, .f32⟩
  | 87 => ⟨S128x4x128, .f32⟩
  | 88 => ⟨S128x512, .f32⟩
  | 89 => ⟨S_, .f32⟩
  | 90 => ⟨S128x512, .f32⟩
  | 91 => ⟨S128x512, .f32⟩
  | 92 => ⟨S_, .f32⟩
  | 93 => ⟨S4x128x128, .f32⟩
  | 94 => ⟨S4x128x128, .f32⟩
  | 95 => ⟨S_, .f32⟩
  | 96 => ⟨S1024x128, .f32⟩
  | 97 => ⟨S_, .i32⟩
  | 98 => ⟨S1, .i32⟩
  | 99 => ⟨S1024x128, .f32⟩
  | 100 => ⟨S1024x8x8, .f32⟩
  | 101 => ⟨S1024x64, .f32⟩
  | 102 => ⟨S_, .i32⟩
  | 103 => ⟨S1, .i32⟩
  | 104 => ⟨S1024x128, .f32⟩
  | 105 => ⟨S1024x128, .bf16⟩
  | 106 => ⟨S1024x128, .f32⟩
  | 107 => ⟨S1024x128, .f32⟩
  | 108 => ⟨S1024x128, .bf16⟩
  | 109 => ⟨S_, .f32⟩
  | 110 => ⟨S1x128, .f32⟩
  | 111 => ⟨S_, .i32⟩
  | 112 => ⟨S1, .i32⟩
  | 113 => ⟨S_, .i32⟩
  | 114 => ⟨S1, .i32⟩
  | 115 => ⟨S2, .i32⟩
  | 116 => ⟨S1x128, .f32⟩
  | 117 => ⟨S64, .f32⟩
  | 118 => ⟨S_, .i32⟩
  | 119 => ⟨S1, .i32⟩
  | 120 => ⟨S_, .i32⟩
  | 121 => ⟨S1, .i32⟩
  | 122 => ⟨S2, .i32⟩
  | 123 => ⟨S1x128, .f32⟩
  | 124 => ⟨S1x1024, .f32⟩
  | 125 => ⟨S1024x3584, .bf16⟩
  | 126 => ⟨S1x512, .f32⟩
  | 127 => ⟨S1024x1024, .bf16⟩
  | _ => ⟨S4x4096x1024, .f32⟩

abbrev hbmTy0_1 (i : Nat) : BufTy := match i % 128 with
  | 0 => ⟨S1x1024, .f32⟩
  | 1 => ⟨S4x4096x1024, .f32⟩
  | 2 => ⟨S4x4096x2x512, .bf16⟩
  | 3 => ⟨S4x4096x8, .f32⟩
  | 4 => ⟨S1x128, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x3584, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S4x128x128, .f32⟩
  | .local _ .vmem, ⟨9, _⟩ => ⟨S128x512, .f32⟩
  | .local _ .vmem, ⟨10, _⟩ => ⟨S128x512, .f32⟩
  | .local _ .vmem, ⟨11, _⟩ => ⟨S1x512, .f32⟩
  | .local _ .vmem, ⟨12, _⟩ => ⟨S3x512, .f32⟩
  | .local _ .vmem, ⟨13, _⟩ => ⟨S1024x1024, .bf16⟩
  | .local _ .vmem, ⟨14, _⟩ => ⟨S1x1024, .f32⟩
  | .local _ .vmem, ⟨15, _⟩ => ⟨S1024x128, .bf16⟩
  | .local _ .vmem, ⟨16, _⟩ => ⟨S1024x128, .bf16⟩
  | .local _ .vmem, ⟨17, _⟩ => ⟨S1x128, .f32⟩
  | .local _ .vmem, ⟨18, _⟩ => ⟨S1x256x1024, .f32⟩
  | .local _ .vmem, ⟨19, _⟩ => ⟨S1x256x1024, .f32⟩
  | .local _ .vmem, ⟨20, _⟩ => ⟨S1x256x2x512, .bf16⟩
  | .local _ .vmem, ⟨21, _⟩ => ⟨S1x256x2x512, .bf16⟩
  | .local _ .vmem, ⟨22, _⟩ => ⟨S1x256x8, .f32⟩
  | .local _ .vmem, ⟨23, _⟩ => ⟨S1x256x8, .f32⟩
  | .local _ .vmem, ⟨24, _⟩ => ⟨S1x128, .f32⟩
  | .local _ .vmem, ⟨25, _⟩ => ⟨S4x128x128, .f32⟩
  | .local _ .vmem, ⟨26, _⟩ => ⟨S264x512, .f32⟩
  | .local _ .vmem, ⟨27, _⟩ => ⟨S256x1024, .bf16⟩
  | .local _ .vmem, ⟨28, _⟩ => ⟨S1x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_call0_v0 : Ref sig .tc := ⟨.hbm, 52, rfl⟩
abbrev main_call0_v1 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_7 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_8 : Ref sig .tc := ⟨.hbm, 89, rfl⟩
abbrev main_v64 : Ref sig .tc := ⟨.hbm, 90, rfl⟩
abbrev main_v65 : Ref sig .tc := ⟨.hbm, 91, rfl⟩
abbrev main_cst_9 : Ref sig .tc := ⟨.hbm, 92, rfl⟩
abbrev main_v66 : Ref sig .tc := ⟨.hbm, 93, rfl⟩
abbrev main_v67 : Ref sig .tc := ⟨.hbm, 94, rfl⟩
abbrev main_cst_10 : Ref sig .tc := ⟨.hbm, 95, rfl⟩
abbrev main_v68 : Ref sig .tc := ⟨.hbm, 96, rfl⟩
abbrev main_c : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_11 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_12 : Ref sig .tc := ⟨.hbm, 109, rfl⟩
abbrev main_v79 : Ref sig .tc := ⟨.hbm, 110, rfl⟩
abbrev main_c_13 : Ref sig .tc := ⟨.hbm, 111, rfl⟩
abbrev main_v80 : Ref sig .tc := ⟨.hbm, 112, rfl⟩
abbrev main_c_14 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_c_15 : Ref sig .tc := ⟨.hbm, 118, rfl⟩
abbrev main_v85 : Ref sig .tc := ⟨.hbm, 119, rfl⟩
abbrev main_c_16 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94_0 : Ref sig .tc := ⟨.hbm, 129, rfl⟩
abbrev main_v94_1 : Ref sig .tc := ⟨.hbm, 130, rfl⟩
abbrev main_v94_2 : Ref sig .tc := ⟨.hbm, 131, rfl⟩
abbrev main_v94_3 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24

abbrev nD : Nat := 1
abbrev τ : Topo := Topo.v7x

variable {F : FTy → Type} [FloatOps F] [Named F]

def κ : String → Option EReal := fun
  | "decay0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "decay1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "decay2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "decay3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | _ => none

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, 0, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x2x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x8 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== ReferenceIdeal.lean ====
abbrev S4x4096x1024 : Shape := ⟨3, ![4, 4096, 1024]⟩
abbrev S1024 : Shape := ⟨1, ![1024]⟩
abbrev S1024x3584 : Shape := ⟨2, ![1024, 3584]⟩
abbrev S512 : Shape := ⟨1, ![512]⟩
abbrev S3x512 : Shape := ⟨2, ![3, 512]⟩
abbrev S1024x1024 : Shape := ⟨2, ![1024, 1024]⟩
abbrev S1024x8 : Shape := ⟨2, ![1024, 8]⟩
abbrev S8 : Shape := ⟨1, ![8]⟩
abbrev S8x1024x8 : Shape := ⟨3, ![8, 1024, 8]⟩
abbrev S8x8 : Shape := ⟨2, ![8, 8]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3584 : Shape := ⟨3, ![4, 4096, 3584]⟩
abbrev S4x4096x512 : Shape := ⟨3, ![4, 4096, 512]⟩
abbrev S4096 : Shape := ⟨1, ![4096]⟩
abbrev S4x4096x4x128 : Shape := ⟨4, ![4, 4096, 4, 128]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S4x4096x4x64 : Shape := ⟨4, ![4, 4096, 4, 64]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x32x128x4x128 : Shape := ⟨5, ![4, 32, 128, 4, 128]⟩
abbrev S4x32x4x128x128 : Shape := ⟨5, ![4, 32, 4, 128, 128]⟩
abbrev S1x1x4x128x128 : Shape := ⟨5, ![1, 1, 4, 128, 128]⟩
abbrev S128x4 : Shape := ⟨2, ![128, 4]⟩
abbrev S1x1x128x4x1 : Shape := ⟨5, ![1, 1, 128, 4, 1]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S1x32x32 : Shape := ⟨3, ![1, 32, 32]⟩
abbrev S4x32x32 : Shape := ⟨3, ![4, 32, 32]⟩
abbrev S4x4x128x128x32 : Shape := ⟨5, ![4, 4, 128, 128, 32]⟩
abbrev S4x4096x4 : Shape := ⟨3, ![4, 4096, 4]⟩
abbrev S4x4096x4x1 : Shape := ⟨4, ![4, 4096, 4, 1]⟩
abbrev S1x1x512 : Shape := ⟨3, ![1, 1, 512]⟩
abbrev S4x2x512 : Shape := ⟨3, ![4, 2, 512]⟩
abbrev S4x4098x512 : Shape := ⟨3, ![4, 4098, 512]⟩
abbrev S1x512 : Shape := ⟨2, ![1, 512]⟩

abbrev nBuf : Space → Nat
  | .hbm => 278
  | .vmem => 0
  | .smem => 0
  | _ => 0

abbrev hbmTy0_0 (i : Nat) : BufTy := match i % 128 with
  | 0 => ⟨S4x4096x1024, .f32⟩
  | 1 => ⟨S1024, .f32⟩
  | 2 => ⟨S1024x3584, .f32⟩
  | 3 => ⟨S512, .f32⟩
  | 4 => ⟨S3x512, .f32⟩
  | 5 => ⟨S1024x1024, .f32⟩
  | 6 => ⟨S1024, .f32⟩
  | 7 => ⟨S1024x8, .f32⟩
  | 8 => ⟨S8, .f32⟩
  | 9 => ⟨S8x1024x8, .f32⟩
  | 10 => ⟨S8x8, .f32⟩
  | 11 => ⟨S4x4096x1024, .f32⟩
  | 12 => ⟨S_, .f32⟩
  | 13 => ⟨S4x4096, .f32⟩
  | 14 => ⟨S4x4096x1, .f32⟩
  | 15 => ⟨S_, .f32⟩
  | 16 => ⟨S4x4096x1, .f32⟩
  | 17 => ⟨S4x4096x1, .f32⟩
  | 18 => ⟨S_, .f32⟩
  | 19 => ⟨S4x4096x1, .f32⟩
  | 20 => ⟨S4x4096x1, .f32⟩
  | 21 => ⟨S4x4096x1, .f32⟩
  | 22 => ⟨S4x4096x1024, .f32⟩
  | 23 => ⟨S4x4096x1024, .f32⟩
  | 24 => ⟨S1x1x1024, .f32⟩
  | 25 => ⟨S4x4096x1024, .f32⟩
  | 26 => ⟨S4x4096x1024, .f32⟩
  | 27 => ⟨S4x4096x3584, .f32⟩
  | 28 => ⟨S4x4096x512, .f32⟩
  | 29 => ⟨S4x4096x512, .f32⟩
  | 30 => ⟨S4x4096x512, .f32⟩
  | 31 => ⟨S4x4096x512, .f32⟩
  | 32 => ⟨S4x4096x512, .f32⟩
  | 33 => ⟨S4x4096x512, .f32⟩
  | 34 => ⟨S4x4096x512, .f32⟩
  | 35 => ⟨S4096, .i32⟩
  | 36 => ⟨S4x4096x4x128, .f32⟩
  | 37 => ⟨S64, .f32⟩
  | 38 => ⟨S64, .f32⟩
  | 39 => ⟨S_, .f32⟩
  | 40 => ⟨S64, .f32⟩
  | 41 => ⟨S64, .f32⟩
  | 42 => ⟨S_, .f32⟩
  | 43 => ⟨S64, .f32⟩
  | 44 => ⟨S64, .f32⟩
  | 45 => ⟨S4096, .f32⟩
  | 46 => ⟨S4096x1, .f32⟩
  | 47 => ⟨S1x64, .f32⟩
  | 48 => ⟨S4096x64, .f32⟩
  | 49 => ⟨S4096x64, .f32⟩
  | 50 => ⟨S4096x64, .f32⟩
  | 51 => ⟨S4096x64, .f32⟩
  | 52 => ⟨S1x4096x1x64, .f32⟩
  | 53 => ⟨S4096x64, .f32⟩
  | 54 => ⟨S1x4096x1x64, .f32⟩
  | 55 => ⟨S4x4096x4x64, .f32⟩
  | 56 => ⟨S4x4096x4x64, .f32⟩
  | 57 => ⟨S4x4096x4x64, .f32⟩
  | 58 => ⟨S4x4096x4x64, .f32⟩
  | 59 => ⟨S4x4096x4x64, .f32⟩
  | 60 => ⟨S4x4096x4x64, .f32⟩
  | 61 => ⟨S4x4096x4x64, .f32⟩
  | 62 => ⟨S4x4096x4x64, .f32⟩
  | 63 => ⟨S4x4096x4x64, .f32⟩
  | 64 => ⟨S4x4096x4x64, .f32⟩
  | 65 => ⟨S4x4096x4x64, .f32⟩
  | 66 => ⟨S4x4096x4x64, .f32⟩
  | 67 => ⟨S4x4096x4x128, .f32⟩
  | 68 => ⟨S_, .f32⟩
  | 69 => ⟨S4x4096x4x128, .f32⟩
  | 70 => ⟨S4x4096x4x128, .f32⟩
  | 71 => ⟨S4x4096x4x128, .f32⟩
  | 72 => ⟨S64, .f32⟩
  | 73 => ⟨S64, .f32⟩
  | 74 => ⟨S_, .f32⟩
  | 75 => ⟨S64, .f32⟩
  | 76 => ⟨S64, .f32⟩
  | 77 => ⟨S_, .f32⟩
  | 78 => ⟨S64, .f32⟩
  | 79 => ⟨S64, .f32⟩
  | 80 => ⟨S4096, .f32⟩
  | 81 => ⟨S4096x1, .f32⟩
  | 82 => ⟨S1x64, .f32⟩
  | 83 => ⟨S4096x64, .f32⟩
  | 84 => ⟨S4096x64, .f32⟩
  | 85 => ⟨S4096x64, .f32⟩
  | 86 => ⟨S4096x64, .f32⟩
  | 87 => ⟨S1x4096x1x64, .f32⟩
  | 88 => ⟨S4096x64, .f32⟩
  | 89 => ⟨S1x4096x1x64, .f32⟩
  | 90 => ⟨S4x4096x4x64, .f32⟩
  | 91 => ⟨S4x4096x4x64, .f32⟩
  | 92 => ⟨S4x4096x4x64, .f32⟩
  | 93 => ⟨S4x4096x4x64, .f32⟩
  | 94 => ⟨S4x4096x4x64, .f32⟩
  | 95 => ⟨S4x4096x4x64, .f32⟩
  | 96 => ⟨S4x4096x4x64, .f32⟩
  | 97 => ⟨S4x4096x4x64, .f32⟩
  | 98 => ⟨S4x4096x4x64, .f32⟩
  | 99 => ⟨S4x4096x4x64, .f32⟩
  | 100 => ⟨S4x4096x4x64, .f32⟩
  | 101 => ⟨S4x4096x4x64, .f32⟩
  | 102 => ⟨S4x4096x4x128, .f32⟩
  | 103 => ⟨S4x4096x4x128, .f32⟩
  | 104 => ⟨S4, .f32⟩
  | 105 => ⟨S_, .f32⟩
  | 106 => ⟨S4, .f32⟩
  | 107 => ⟨S4, .f32⟩
  | 108 => ⟨S_, .f32⟩
  | 109 => ⟨S4, .f32⟩
  | 110 => ⟨S4, .f32⟩
  | 111 => ⟨S4, .f32⟩
  | 112 => ⟨S4, .f32⟩
  | 113 => ⟨S128, .f32⟩
  | 114 => ⟨S128x1, .f32⟩
  | 115 => ⟨S1x128, .f32⟩
  | 116 => ⟨S128x128, .f32⟩
  | 117 => ⟨S128x128, .f32⟩
  | 118 => ⟨S128x128, .f32⟩
  | 119 => ⟨S_, .f32⟩
  | 120 => ⟨S128x128, .f32⟩
  | 121 => ⟨S128x128, .i1⟩
  | 122 => ⟨S1x128x128, .i1⟩
  | 123 => ⟨S4x1x1, .f32⟩
  | 124 => ⟨S_, .f32⟩
  | 125 => ⟨S_, .f32⟩
  | 126 => ⟨S128x128, .f32⟩
  | 127 => ⟨S128x128, .f32⟩
  | _ => ⟨S4x4096x1024, .f32⟩

abbrev hbmTy0_1 (i : Nat) : BufTy := match i % 128 with
  | 0 => ⟨S1x128x128, .f32⟩
  | 1 => ⟨S4x128x128, .f32⟩
  | 2 => ⟨S4x128x128, .f32⟩
  | 3 => ⟨S4x128x128, .f32⟩
  | 4 => ⟨S4x128x128, .f32⟩
  | 5 => ⟨S_, .f32⟩
  | 6 => ⟨S_, .f32⟩
  | 7 => ⟨S4x128x128, .i1⟩
  | 8 => ⟨S4x128x128, .f32⟩
  | 9 => ⟨S4x128x128, .f32⟩
  | 10 => ⟨S4x1, .f32⟩
  | 11 => ⟨S_, .f32⟩
  | 12 => ⟨S128, .f32⟩
  | 13 => ⟨S128, .f32⟩
  | 14 => ⟨S1x128, .f32⟩
  | 15 => ⟨S4x128, .f32⟩
  | 16 => ⟨S4x128, .f32⟩
  | 17 => ⟨S4x128, .f32⟩
  | 18 => ⟨S4x128, .f32⟩
  | 19 => ⟨S4x1, .f32⟩
  | 20 => ⟨S_, .f32⟩
  | 21 => ⟨S128, .f32⟩
  | 22 => ⟨S128, .f32⟩
  | 23 => ⟨S1x128, .f32⟩
  | 24 => ⟨S4x128, .f32⟩
  | 25 => ⟨S4x128, .f32⟩
  | 26 => ⟨S4x128, .f32⟩
  | 27 => ⟨S4x128, .f32⟩
  | 28 => ⟨S4x32x128x4x128, .f32⟩
  | 29 => ⟨S4x32x128x4x128, .f32⟩
  | 30 => ⟨S4x32x128x4x128, .f32⟩
  | 31 => ⟨S4x32x4x128x128, .f32⟩
  | 32 => ⟨S1x1x4x128x128, .f32⟩
  | 33 => ⟨S4x32x4x128x128, .f32⟩
  | 34 => ⟨S4x32x4x128x128, .f32⟩
  | 35 => ⟨S4x32x4x128x128, .f32⟩
  | 36 => ⟨S4x32x128x4x128, .f32⟩
  | 37 => ⟨S128x4, .f32⟩
  | 38 => ⟨S1x1x128x4x1, .f32⟩
  | 39 => ⟨S4x32x128x4x128, .f32⟩
  | 40 => ⟨S4x32x128x4x128, .f32⟩
  | 41 => ⟨S4x32x4x128x128, .f32⟩
  | 42 => ⟨S32, .f32⟩
  | 43 => ⟨S32x1, .f32⟩
  | 44 => ⟨S_, .f32⟩
  | 45 => ⟨S32x1, .f32⟩
  | 46 => ⟨S32x1, .f32⟩
  | 47 => ⟨S1x32, .f32⟩
  | 48 => ⟨S32x32, .f32⟩
  | 49 => ⟨S32x32, .f32⟩
  | 50 => ⟨S32x32, .f32⟩
  | 51 => ⟨S_, .f32⟩
  | 52 => ⟨S32x32, .f32⟩
  | 53 => ⟨S32x32, .i1⟩
  | 54 => ⟨S1x32x32, .i1⟩
  | 55 => ⟨S4x1x1, .f32⟩
  | 56 => ⟨S_, .f32⟩
  | 57 => ⟨S4x1x1, .f32⟩
  | 58 => ⟨S4x1x1, .f32⟩
  | 59 => ⟨S_, .f32⟩
  | 60 => ⟨S32x32, .f32⟩
  | 61 => ⟨S32x32, .i1⟩
  | 62 => ⟨S_, .f32⟩
  | 63 => ⟨S_, .f32⟩
  | 64 => ⟨S32x32, .f32⟩
  | 65 => ⟨S32x32, .f32⟩
  | 66 => ⟨S1x32x32, .f32⟩
  | 67 => ⟨S4x32x32, .f32⟩
  | 68 => ⟨S4x32x32, .f32⟩
  | 69 => ⟨S4x32x32, .f32⟩
  | 70 => ⟨S4x32x32, .f32⟩
  | 71 => ⟨S_, .f32⟩
  | 72 => ⟨S_, .f32⟩
  | 73 => ⟨S4x32x32, .i1⟩
  | 74 => ⟨S4x32x32, .f32⟩
  | 75 => ⟨S4x32x32, .f32⟩
  | 76 => ⟨S4x4x128x128x32, .f32⟩
  | 77 => ⟨S4x32x4x128x128, .f32⟩
  | 78 => ⟨S4x32x4x128x128, .f32⟩
  | 79 => ⟨S4x32x128x4x128, .f32⟩
  | 80 => ⟨S128x4, .f32⟩
  | 81 => ⟨S1x1x128x4x1, .f32⟩
  | 82 => ⟨S4x32x128x4x128, .f32⟩
  | 83 => ⟨S4x32x128x4x128, .f32⟩
  | 84 => ⟨S4x32x128x4x128, .f32⟩
  | 85 => ⟨S4x4096x4x128, .f32⟩
  | 86 => ⟨S4x4096x512, .f32⟩
  | 87 => ⟨S4x4096x512, .f32⟩
  | 88 => ⟨S_, .f32⟩
  | 89 => ⟨S4x4096x512, .f32⟩
  | 90 => ⟨S4x4096x512, .f32⟩
  | 91 => ⟨S_, .f32⟩
  | 92 => ⟨S4x4096x512, .f32⟩
  | 93 => ⟨S4x4096x512, .f32⟩
  | 94 => ⟨S4x4096x512, .f32⟩
  | 95 => ⟨S_, .f32⟩
  | 96 => ⟨S4x4096x4, .f32⟩
  | 97 => ⟨S4x4096x4x1, .f32⟩
  | 98 => ⟨S_, .f32⟩
  | 99 => ⟨S4x4096x4x1, .f32⟩
  | 100 => ⟨S4x4096x4x1, .f32⟩
  | 101 => ⟨S4x4096x4x128, .f32⟩
  | 102 => ⟨S4x4096x4x128, .f32⟩
  | 103 => ⟨S4x4096x4x128, .f32⟩
  | 104 => ⟨S_, .f32⟩
  | 105 => ⟨S4x4096x4, .f32⟩
  | 106 => ⟨S4x4096x4x1, .f32⟩
  | 107 => ⟨S_, .f32⟩
  | 108 => ⟨S4x4096x4x1, .f32⟩
  | 109 => ⟨S4x4096x4x1, .f32⟩
  | 110 => ⟨S4x4096x4x128, .f32⟩
  | 111 => ⟨S4x4096x4x128, .f32⟩
  | 112 => ⟨S_, .f32⟩
  | 113 => ⟨S4x4096x4x1, .f32⟩
  | 114 => ⟨S4x4096x4x1, .f32⟩
  | 115 => ⟨S4x4096x4x1, .f32⟩
  | 116 => ⟨S4x4096x4x128, .f32⟩
  | 117 => ⟨S4x4096x4x128, .f32⟩
  | 118 => ⟨S4x4096x512, .f32⟩
  | 119 => ⟨S1x1x512, .f32⟩
  | 120 => ⟨S4x4096x512, .f32⟩
  | 121 => ⟨S4x4096x512, .f32⟩
  | 122 => ⟨S4x4096x512, .f32⟩
  | 123 => ⟨S4x4096x512, .f32⟩
  | 124 => ⟨S_, .f32⟩
  | 125 => ⟨S4x2x512, .f32⟩
  | 126 => ⟨S4x4098x512, .f32⟩
  | 127 => ⟨S4x4096x512, .f32⟩
  | _ => ⟨S4x4096x1024, .f32⟩

abbrev hbmTy0_2 (i : Nat) : BufTy := match i % 128 with
  | 0 => ⟨S1x512, .f32⟩
  | 1 => ⟨S512, .f32⟩
  | 2 => ⟨S1x1x512, .f32⟩
  | 3 => ⟨S4x4096x512, .f32⟩
  | 4 => ⟨S4x4096x512, .f32⟩
  | 5 => ⟨S4x4096x512, .f32⟩
  | 6 => ⟨S1x512, .f32⟩
  | 7 => ⟨S512, .f32⟩
  | 8 => ⟨S1x1x512, .f32⟩
  | 9 => ⟨S4x4096x512, .f32⟩
  | 10 => ⟨S4x4096x512, .f32⟩
  | 11 => ⟨S4x4096x512, .f32⟩
  | 12 => ⟨S1x512, .f32⟩
  | 13 => ⟨S512, .f32⟩
  | 14 => ⟨S1x1x512, .f32⟩
  | 15 => ⟨S4x4096x512, .f32⟩
  | 16 => ⟨S4x4096x512, .f32⟩
  | 17 => ⟨S4x4096x512, .f32⟩
  | 18 => ⟨S4x4096x512, .f32⟩
  | 19 => ⟨S4x4096x1024, .f32⟩
  | 20 => ⟨S4x4096x1024, .f32⟩
  | 21 => ⟨S4x4096x1024, .f32⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_4 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_5 : Ref sig .tc := ⟨.hbm, 74, rfl⟩
abbrev main_v57 : Ref sig .tc := ⟨.hbm, 75, rfl⟩
abbrev main_v58 : Ref sig .tc := ⟨.hbm, 76, rfl⟩
abbrev main_cst_6 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_cst_7 : Ref sig .tc := ⟨.hbm, 105, rfl⟩
abbrev main_v86 : Ref sig .tc := ⟨.hbm, 106, rfl⟩
abbrev main_v87 : Ref sig .tc := ⟨.hbm, 107, rfl⟩
abbrev main_cst_8 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_cst_9 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_cst_10 : Ref sig .tc := ⟨.hbm, 124, rfl⟩
abbrev main_call0_v0 : Ref sig .tc := ⟨.hbm, 125, rfl⟩
abbrev main_call0_v1 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_cst_11 : Ref sig .tc := ⟨.hbm, 133, rfl⟩
abbrev main_call1_v0 : Ref sig .tc := ⟨.hbm, 134, rfl⟩
abbrev main_call1_v1 : Ref sig .tc := ⟨.hbm, 135, rfl⟩
abbrev main_call1_v2 : Ref sig .tc := ⟨.hbm, 136, rfl⟩
abbrev main_v108 : Ref sig .tc := ⟨.hbm, 137, rfl⟩
abbrev main_v109 : Ref sig .tc := ⟨.hbm, 138, rfl⟩
abbrev main_cst_12 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_cst_13 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_cst_14 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_cst_15 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_cst_16 : Ref sig .tc := ⟨.hbm, 184, rfl⟩
abbrev main_v151 : Ref sig .tc := ⟨.hbm, 185, rfl⟩
abbrev main_v152 : Ref sig .tc := ⟨.hbm, 186, rfl⟩
abbrev main_cst_17 : Ref sig .tc := ⟨.hbm, 187, rfl⟩
abbrev main_v153 : Ref sig .tc := ⟨.hbm, 188, rfl⟩
abbrev main_v154 : Ref sig .tc := ⟨.hbm, 189, rfl⟩
abbrev main_cst_18 : Ref sig .tc := ⟨.hbm, 190, rfl⟩
abbrev main_call2_v0 : Ref sig .tc := ⟨.hbm, 191, rfl⟩
abbrev main_call2_v1 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_cst_19 : Ref sig .tc := ⟨.hbm, 199, rfl⟩
abbrev main_call3_v0 : Ref sig .tc := ⟨.hbm, 200, rfl⟩
abbrev main_call3_v1 : Ref sig .tc := ⟨.hbm, 201, rfl⟩
abbrev main_call3_v2 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_call4_v0 : Ref sig .tc := ⟨.hbm, 214, rfl⟩
abbrev main_call4_v1 : Ref sig .tc := ⟨.hbm, 215, rfl⟩
abbrev main_call4_cst : Ref sig .tc := ⟨.hbm, 216, rfl⟩
abbrev main_call4_v2 : Ref sig .tc := ⟨.hbm, 217, rfl⟩
abbrev main_call4_v3 : Ref sig .tc := ⟨.hbm, 218, rfl⟩
abbrev main_call4_cst_0 : Ref sig .tc := ⟨.hbm, 219, rfl⟩
abbrev main_call4_v4 : Ref sig .tc := ⟨.hbm, 220, rfl⟩
abbrev main_call4_v5 : Ref sig .tc := ⟨.hbm, 221, rfl⟩
abbrev main_v172 : Ref sig .tc := ⟨.hbm, 222, rfl⟩
abbrev main_cst_20 : Ref sig .tc := ⟨.hbm, 223, rfl⟩
abbrev main_v173 : Ref sig .tc := ⟨.hbm, 224, rfl⟩
abbrev main_v174 : Ref sig .tc := ⟨.hbm, 225, rfl⟩
abbrev main_cst_21 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_cst_22 : Ref sig .tc := ⟨.hbm, 232, rfl⟩
abbrev main_v180 : Ref sig .tc := ⟨.hbm, 233, rfl⟩
abbrev main_v181 : Ref sig .tc := ⟨.hbm, 234, rfl⟩
abbrev main_cst_23 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_cst_24 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_cst_25 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩

abbrev nD : Nat := 1
abbrev τ : Topo := Topo.v7x

variable {F : FTy → Type} [FloatOps F]
-- ==== Proof.Mixer.Frames.lean ====
/-
  The frames: the generated runs, as the claims state them.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Bf16Pair
public import Idealize.ShloMosaic.Lib.Bf16PairInverse

@[expose] public section

noncomputable section

namespace Cert.Mixer

open Idealize.ShloMosaic Idealize.ShloMosaic.TcCoe Idealize.SL.Sem

/-- The kernel's frame. -/
theorem frame_kernel : Cert.quiescent_Kernel := fun m ρ _ => Cert.Kernel.Gen.frame m ρ

/-- The kernel's frame, at the ideal reading. -/
theorem frame_ideal : Cert.quiescent_KernelIdeal := fun m ρ _ => Cert.KernelIdeal.Gen.frame m ρ

/-- The reference's frame: it owns no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Each rewrite between the two prints, at its place. -/
theorem preserves : Cert.preserves_Kernel_KernelIdeal :=
  ⟨IdealRules.bf16_pair.bufferStatement _ _ (by decide), IdealRules.bf16_pair.bufferStatement _ _ (by decide),
    IdealRules.named_const.statement _ _ _ _ _ rfl, IdealRules.named_const.statement _ _ _ _ _ rfl,
    IdealRules.named_const.statement _ _ _ _ _ rfl, IdealRules.named_const.statement _ _ _ _ _ rfl,
    IdealRules.bf16_pair.packStatement _, IdealRules.bf16_pair.statement _ _ (by decide)⟩

end Cert.Mixer
-- ==== Proof.Mixer.Head.lean ====
/-
  One head of one chunk of the retention, as the kernel computes it, as functions of its slices, and read at an entry.
-/
module

public import proofs.«01_k».proof.Proof.Gen.KernelIdeal.Skeleton
public import Idealize.ShloMosaic.Lib.Pointwise

@[expose] public section

set_option maxRecDepth 16384

noncomputable section

namespace Cert.Mixer

open Cert.KernelIdeal Cert.KernelIdeal.Gen
open Idealize.ShloMosaic

section Vectors

variable {F : FTy → Type} [FloatOps F] [Named F]

/-- A slice turned by its positions' angles. -/
def rotV (v c s : FVec F S128x128 .f32) : FVec F S128x128 .f32 :=
  addf (mulf v c) (mulf (dynamicRotate 1 64#32 none v rotates_S128x128_d1) s)

/-- What the head reads: its chunk's own part and the carried state's. -/
def headO (q k v c s : FVec F S128x128 .f32) (dm : Vec F S1x128x128 .f32) (st : Vec F S1x128x128 .f32) (qd : Vec F S128x128 .f32) : FVec F S128x128 .f32 :=
  addf
    (matmul dot_S128x128_S128x128_S128x128_1_0_0_1_n_n none
      (truncf .bf16
        (mulf
          (matmul dot_S128x128_S128x128_S128x128_1_1_0_0_n_n none (truncf .bf16 (rotV q c s) bitsLt_bf16_f32) (truncf .bf16 (rotV k c s) bitsLt_bf16_f32)
            (constant S128x128 .f32 0x00000000#32))
          (shapeCast S128x128 dm shapeCasts_S1x128x128_S128x128))
        bitsLt_bf16_f32)
      (truncf .bf16 v bitsLt_bf16_f32) (constant S128x128 .f32 0x00000000#32))
    (matmul dot_S128x128_S128x128_S128x128_1_0_0_1_n_n none
      (truncf .bf16 (mulf (rotV q c s) (shapeCast S128x128 qd shapeCasts_S128x128_S128x128)) bitsLt_bf16_f32)
      (truncf .bf16 (shapeCast S128x128 st shapeCasts_S1x128x128_S128x128) bitsLt_bf16_f32) (constant S128x128 .f32 0x00000000#32))

/-- The state after the chunk. -/
def headS (dec : F .f32) (k v c s : FVec F S128x128 .f32) (st : Vec F S1x128x128 .f32) (kd : Vec F S128x128 .f32) : FVec F S1x128x128 .f32 :=
  shapeCast S1x128x128
    (addf (mulf (broadcast S128x128 dec) (shapeCast S128x128 st shapeCasts_S1x128x128_S128x128))
      (matmul dot_S128x128_S128x128_S128x128_0_0_1_1_n_n none
        (truncf .bf16 (mulf (rotV k c s) (shapeCast S128x128 kd shapeCasts_S128x128_S128x128)) bitsLt_bf16_f32)
        (truncf .bf16 v bitsLt_bf16_f32) (constant S128x128 .f32 0x00000000#32)))
    shapeCasts_S128x128_S1x128x128

/-- A row's mean over the head's columns. -/
def meanV (o : FVec F S128x128 .f32) : FVec F S128x1 .f32 :=
  divf (shapeCast S128x1 (multiReduction .add [1] S128 o 0x00000000#32 reduces_S128x128_S128 (.inl rfl) rfl) shapeCasts_S128_S128x1)
    (broadcast S128x1 (Scalar.ofBits .f32 0x43000000#32))

/-- A row less its mean. -/
def offV (o : FVec F S128x128 .f32) : FVec F S128x128 .f32 := subf o (broadcastTo S128x128 (meanV o) broadcasts_S128x1_S128x128)

/-- The head's columns of the mix: the normalised rows, weighted and gated. -/
def headY (g o : FVec F S128x128 .f32) (w : Vec F S1x128 .f32) : FVec F S128x128 .bf16 :=
  shapeCast S128x128
    (truncf .bf16
      (mulf
        (mulf g (divf (broadcast S128x128 (Scalar.ofBits .f32 0x3F800000#32))
          (addf (broadcast S128x128 (Scalar.ofBits .f32 0x3F800000#32)) (exp (subf (broadcast S128x128 (Scalar.ofBits .f32 0x00000000#32)) g)))))
        (mulf
          (mulf (offV o)
            (broadcastTo S128x128
              (rsqrt (addf (meanV (mulf (offV o) (offV o))) (broadcast S128x1 (Scalar.ofBits .f32 0x358637BD#32))))
              broadcasts_S128x1_S128x128))
          (broadcastTo S128x128 (shapeCast S1x128 w shapeCasts_S1x128_S1x128) broadcasts_S1x128_S128x128)))
      bitsLt_bf16_f32)
    shapeCasts_S128x128_S128x128

end Vectors

/-- The first head's retention rows, as the body computes them, are the general ones. -/
theorem k0_pay18_eq {F : FTy → Type} [FloatOps F] [Named F] (v29 : FVec F S256x128 .f32) (v31 : FVec F S256x128 .f32) (v32 : FVec F S128x128 .f32) (v33 : FVec F S128x128 .f32) (v34 : FVec F S128x128 .f32) (v50 : Vec F S1x128x128 .f32) (v55 : Vec F S1x128x128 .f32) (v57 : Vec F S128x128 .f32) :
    k0_pay18 v29 v31 v32 v33 v34 v50 v55 v57 = headO v32 v33 v34 (k0_pay13 v29) (k0_pay14 v31) v50 v55 v57 := rfl

/-- The first head's gated rows, as the body computes them, are the general ones. -/
theorem k0_pay20_eq {F : FTy → Type} [FloatOps F] [Named F] (v35 : FVec F S128x128 .f32) (v63 : FVec F S128x128 .f32) (v91 : Vec F S1x128 .f32) :
    k0_pay20 v35 v63 v91 = headY v35 v63 v91 := rfl

/-- The column half a head away. -/
def turned (d : Fin 128) : Fin 128 := ⟨(d.val + 64) % 128, Nat.mod_lt _ (by omega)⟩

/-- A turned entry. -/
def rotE (v c s : FVec Ideal S128x128 .f32) (i d : Fin 128) : EReal :=
  v (ix2 i d) * c (ix2 i d) + v (ix2 i (turned d)) * s (ix2 i d)

/-- An entry of the rotated rows. -/
theorem rotV_apply (v c s : FVec Ideal S128x128 .f32) (i d : Fin 128) : rotV v c s (ix2 i d) = rotE v c s i d := by
  unfold rotV rotE
  pointwise
  have e : (⟨(d.val + 128 - 64) % 128, Nat.mod_lt _ (by omega)⟩ : Fin 128) = turned d := Fin.ext (by simp only [turned]; omega)
  rw [e]

/-- An entry of a head's retention rows: inside the chunk, and through the state. -/
theorem headO_apply (q k v c s : FVec Ideal S128x128 .f32) (dm : Vec Ideal S1x128x128 .f32) (st : Vec Ideal S1x128x128 .f32) (qd : Vec Ideal S128x128 .f32) (i e : Fin 128) :
    headO q k v c s dm st qd (ix2 i e)
      = (∑ j : Fin 128, (∑ d : Fin 128, rotE q c s i d * rotE k c s j d) * dm (ix3 0 i j) * v (ix2 j e))
        + ∑ d : Fin 128, rotE q c s i d * qd (ix2 i d) * st (ix3 0 d e) := by
  have hq := rotV_apply q c s
  have hk := rotV_apply k c s
  unfold headO
  generalize rotV q c s = Q at hq ⊢
  generalize rotV k c s = K at hk ⊢
  pointwise
  simp only [hq, hk]

/-- An entry of a head's next state. -/
theorem headS_apply (dec : EReal) (k v c s : FVec Ideal S128x128 .f32) (st : Vec Ideal S1x128x128 .f32) (kd : Vec Ideal S128x128 .f32) (d e : Fin 128) :
    headS (F := Ideal) dec k v c s st kd (ix3 0 d e)
      = dec * st (ix3 0 d e) + ∑ j : Fin 128, rotE k c s j d * kd (ix2 j d) * v (ix2 j e) := by
  have hk := rotV_apply k c s
  unfold headS
  generalize rotV k c s = K at hk ⊢
  pointwise
  simp only [hk]

/-- A row's mean. -/
def meanE (o : Fin 128 → EReal) : EReal := Ideal.div (∑ d, o d) (Ideal.ofBits .f32 0x43000000#32)
/-- A gate's value. -/
def gateE (g : EReal) : EReal := g * Ideal.div 1 (1 + Ideal.exp (-g))
/-- A normalised entry. -/
def normE (o : Fin 128 → EReal) (e : Fin 128) : EReal :=
  (o e - meanE o) * Ideal.rsqrt (meanE (fun d => (o d - meanE o) * (o d - meanE o)) + Ideal.ofBits .f32 0x358637BD#32)

/-- An entry of a head's normed and gated rows. -/
theorem headY_apply (g o : FVec Ideal S128x128 .f32) (w : Vec Ideal S1x128 .f32) (i e : Fin 128) :
    headY g o w (ix2 i e) = gateE (g (ix2 i e)) * (normE (fun d => o (ix2 i d)) e * w (ix2 0 e)) := by
  unfold headY offV meanV normE meanE gateE
  pointwise
  simp only [zero_sub]

end Cert.Mixer
-- ==== Proof.Mixer.Rows.lean ====
/-
  The kernel's tile before and after the heads, read at an entry: the projection, the shifted columns, the residual sum.
-/
module

public import proofs.«01_k».proof.Proof.Mixer.Head

@[expose] public section

set_option maxRecDepth 16384

noncomputable section

namespace Cert.Mixer

open Cert.KernelIdeal Cert.KernelIdeal.Gen
open Idealize.ShloMosaic

/-- An entry of a row divided by its root mean square and weighted. -/
def rmsE (x w : Fin 1024 → EReal) (k : Fin 1024) : EReal :=
  x k * Ideal.rsqrt (Ideal.div (∑ j, x j * x j) (Ideal.ofBits .f32 0x44800000#32) + Ideal.ofBits .f32 0x358637BD#32) * w k

/-- An entry of the tile's projection of normed rows. -/
theorem proj_apply (x0 : Vec Ideal S1x256x1024 .f32) (x1 : Vec Ideal S1x1024 .f32) (x2 : Vec Ideal S1024x3584 .bf16) (r : Fin 256) (d : Fin 3584) :
    k0_pay6 x0 x1 x2 (ix2 r d) = ∑ k : Fin 1024, rmsE (fun k => x0 (ix3 0 r k)) (fun k => x1 (ix2 0 k)) k * x2 (ix2 k d) := by
  unfold k0_pay6 k0_pay5 rmsE
  pointwise

/-- An entry of the convolution's input. -/
theorem cu_apply (p : FVec Ideal S256x3584 .f32) (r : Fin 256) (d : Fin 512) :
    k0_pay110 p (ix2 r d) = p (ix2 r ⟨2560 + d.val, by omega⟩) * p (ix2 r ⟨3072 + d.val, by omega⟩) := by
  unfold k0_pay110
  pointwise

/-- An entry of the gated convolution. -/
theorem conv_apply (p : FVec Ideal S256x3584 .f32) (w2 w1 w0 : Vec Ideal S1x512 .f32) (a b c : Vec Ideal S256x512 .f32) (r : Fin 256) (d : Fin 512) :
    k0_pay112 (k0_pay109 p) (k0_pay111 w2 a) w1 b w0 c (ix2 r d)
      = p (ix2 r ⟨2048 + d.val, by omega⟩) * (w2 (ix2 0 d) * a (ix2 r d) + w1 (ix2 0 d) * b (ix2 r d) + w0 (ix2 0 d) * c (ix2 r d)) := by
  unfold k0_pay112 k0_pay109 k0_pay111
  pointwise

/-- The kept rows are stored as they are. -/
theorem tail_apply (v : Vec Ideal S8x512 .f32) : k0_pay113 v = v := by
  funext y
  unfold k0_pay113
  pointwise

/-- An entry of the tile's output: the residual and the output projection. -/
theorem sum_apply (x0 : Vec Ideal S1x256x1024 .f32) (mx : Vec Ideal S256x1024 .bf16) (wo : Vec Ideal S1024x1024 .bf16) (r : Fin 256) (d : Fin 1024) :
    k0_pay115 (k0_pay5 x0) mx wo (ix3 0 r d) = x0 (ix3 0 r d) + ∑ k : Fin 1024, mx (ix2 r k) * wo (ix2 k d) := by
  unfold k0_pay115 k0_pay114 k0_pay5
  pointwise

end Cert.Mixer
-- ==== Proof.Mixer.Slices.lean ====
/-
  The slices a head of a chunk takes, and the head's vectors as one entry each of the tile's projection.
-/
module

public import proofs.«01_k».proof.Proof.Mixer.Rows
public import Idealize.ShloMosaic.Lib.Pipeline.ValueKit

@[expose] public section

set_option maxRecDepth 16384

noncomputable section

namespace Cert.Mixer

open Cert.KernelIdeal Cert.KernelIdeal.Gen
open Idealize.ShloMosaic

/-- Row `i` of chunk `j` of the tile. -/
def row (j : Fin 2) (i : Fin 128) : Fin 256 := ⟨128 * j.val + i.val, by omega⟩
/-- Column `d` of head `h`. -/
def col (h : Fin 4) (d : Fin 128) : Fin 512 := ⟨128 * h.val + d.val, by omega⟩
/-- Column `d` of head `h` of the projection's `n`-th part. -/
def pcol (n : Fin 7) (h : Fin 4) (d : Fin 128) : Fin 3584 := ⟨128 * (4 * n.val + h.val) + d.val, by omega⟩

/-- Head `h` of chunk `j` of the projection's `n`-th part. -/
def sliceP (P : FVec Ideal S256x3584 .f32) (j : Fin 2) (n : Fin 7) (h : Fin 4) : FVec Ideal S128x128 .f32 :=
  extractStridedSlice S128x128 ![128 * j.val, 128 * (4 * n.val + h.val)] P
    ⟨rfl, fun a => by
      have hj := j.isLt; have hn := n.isLt; have hh := h.isLt
      match a with
      | ⟨0, _⟩ => show 128 * j.val + 128 ≤ 256; omega
      | ⟨1, _⟩ => show 128 * (4 * n.val + h.val) + 128 ≤ 3584; omega⟩

/-- Chunk `j`'s rows of the angles. -/
def sliceC (C : FVec Ideal S256x128 .f32) (j : Fin 2) : FVec Ideal S128x128 .f32 :=
  extractStridedSlice S128x128 ![128 * j.val, 0] C
    ⟨rfl, fun a => by
      have hj := j.isLt
      match a with
      | ⟨0, _⟩ => show 128 * j.val + 128 ≤ 256; omega
      | ⟨1, _⟩ => show 0 + 128 ≤ 128; omega⟩

/-- Head `h` of a stack of squares. -/
def ldH (X : Vec Ideal S4x128x128 .f32) (h : Fin 4) : Vec Ideal S1x128x128 .f32 :=
  View.ld X (Rect.unit (s := S4x128x128) ![h.val, 0, 0] ![1, 128, 128] (fun a => by
    have hh := h.isLt
    match a with
    | ⟨0, _⟩ => show h.val + 1 ≤ 4; omega
    | ⟨1, _⟩ => show 0 + 128 ≤ 128; omega
    | ⟨2, _⟩ => show 0 + 128 ≤ 128; omega))

/-- Head `h`'s columns. -/
def ldC (X : Vec Ideal S128x512 .f32) (h : Fin 4) : Vec Ideal S128x128 .f32 :=
  View.ld X (Rect.unit (s := S128x512) ![0, 128 * h.val] ![128, 128] (fun a => by
    have hh := h.isLt
    match a with
    | ⟨0, _⟩ => show 0 + 128 ≤ 128; omega
    | ⟨1, _⟩ => show 128 * h.val + 128 ≤ 512; omega))

/-- Head `h`'s weights. -/
def ldW (X : Vec Ideal S1x512 .f32) (h : Fin 4) : Vec Ideal S1x128 .f32 :=
  View.ld X (Rect.unit (s := S1x512) ![0, 128 * h.val] ![1, 128] (fun a => by
    have hh := h.isLt
    match a with
    | ⟨0, _⟩ => show 0 + 1 ≤ 1; omega
    | ⟨1, _⟩ => show 128 * h.val + 128 ≤ 512; omega))

/-- An entry of a chunk's and head's slice of the projection. -/
theorem sliceP_apply (P : FVec Ideal S256x3584 .f32) (j : Fin 2) (n : Fin 7) (h : Fin 4) (i d : Fin 128) :
    sliceP P j n h (ix2 i d) = P (ix2 (row j i) (pcol n h d)) := by
  refine congrArg P (funext fun a => Fin.ext ?_)
  match a with
  | ⟨0, _⟩ => rfl
  | ⟨1, _⟩ => rfl

/-- An entry of a chunk's slice of the rotation tables. -/
theorem sliceC_apply (C : FVec Ideal S256x128 .f32) (j : Fin 2) (i d : Fin 128) :
    sliceC C j (ix2 i d) = C (ix2 (row j i) d) := by
  refine congrArg C (funext fun a => Fin.ext ?_)
  match a with
  | ⟨0, _⟩ => rfl
  | ⟨1, _⟩ => exact Nat.zero_add _

/-- An entry of a head's square. -/
theorem ldH_apply (X : Vec Ideal S4x128x128 .f32) (h : Fin 4) (a : Fin 1) (i d : Fin 128) : ldH X h (ix3 a i d) = X (ix3 h i d) :=
  View.ld_unit_apply_of X _ _ _ _ _ fun b => by
    match b with
    | ⟨0, _⟩ => show h.val = h.val + a.val; omega
    | ⟨1, _⟩ => show i.val = 0 + i.val; omega
    | ⟨2, _⟩ => show d.val = 0 + d.val; omega

/-- An entry of a head's columns. -/
theorem ldC_apply (X : Vec Ideal S128x512 .f32) (h : Fin 4) (i d : Fin 128) : ldC X h (ix2 i d) = X (ix2 i (col h d)) :=
  View.ld_unit_apply_of X _ _ _ _ _ fun b => by
    match b with
    | ⟨0, _⟩ => show i.val = 0 + i.val; omega
    | ⟨1, _⟩ => rfl

/-- An entry of a head's norm weights. -/
theorem ldW_apply (X : Vec Ideal S1x512 .f32) (h : Fin 4) (a : Fin 1) (d : Fin 128) : ldW X h (ix2 a d) = X (ix2 0 (col h d)) :=
  View.ld_unit_apply_of X _ _ _ _ _ fun b => by
    match b with
    | ⟨0, _⟩ => show 0 = 0 + a.val; omega
    | ⟨1, _⟩ => rfl

/-- The factor the state keeps over one chunk. -/
def dec (h : Fin 4) : EReal :=
  match h with
  | 0 => Named.named (F := Ideal) (φ := .f32) κ "decay0" 0x3C8CC36A#32
  | 1 => Named.named (F := Ideal) (φ := .f32) κ "decay1" 0x3E08698E#32
  | 2 => Named.named (F := Ideal) (φ := .f32) κ "decay2" 0x3EBB9DB9#32
  | 3 => Named.named (F := Ideal) (φ := .f32) κ "decay3" 0x3F1B1EB1#32

/-- A head's next state from the tile's projection and angles. -/
def nextV (j : Fin 2) (h : Fin 4) (P : FVec Ideal S256x3584 .f32) (C N : FVec Ideal S256x128 .f32) (s : Vec Ideal S1x128x128 .f32) (kd : Vec Ideal S128x128 .f32) :
    Vec Ideal S1x128x128 .f32 :=
  headS (F := Ideal) (dec h) (sliceP P j 1 h) (sliceP P j 2 h) (sliceC C j) (sliceC N j) s kd

/-- A head's columns of the mix from the tile's projection and angles. -/
def mixV (j : Fin 2) (h : Fin 4) (P : FVec Ideal S256x3584 .f32) (C N : FVec Ideal S256x128 .f32) (dm s : Vec Ideal S1x128x128 .f32) (qd : Vec Ideal S128x128 .f32)
    (w : Vec Ideal S1x128 .f32) : Vec Ideal S128x128 .bf16 :=
  headY (sliceP P j 3 h) (headO (sliceP P j 0 h) (sliceP P j 1 h) (sliceP P j 2 h) (sliceC C j) (sliceC N j) dm s qd) w

/-- What one point reads: its blocks and the state carried to it. -/
structure Ins where
  x : Vec Ideal S1x256x1024 .f32
  n1 : Vec Ideal S1x1024 .f32
  wi : Vec Ideal S1024x3584 .bf16
  cs : Vec Ideal S256x128 .f32
  sn : Vec Ideal S256x128 .f32
  dm : Vec Ideal S4x128x128 .f32
  kd : Vec Ideal S128x512 .f32
  qd : Vec Ideal S128x512 .f32
  gw : Vec Ideal S1x512 .f32
  cw : Vec Ideal S3x512 .f32
  wo : Vec Ideal S1024x1024 .bf16
  st : Vec Ideal S4x128x128 .f32
  old : Fin 8 → Fin 512 → EReal

namespace Ins

variable (I : Ins)

/-- The tile's projection. -/
def P : FVec Ideal S256x3584 .f32 := k0_pay6 I.x I.n1 I.wi
/-- The cosines. -/
def C : FVec Ideal S256x128 .f32 := k0_pay7 I.cs
/-- The signed sines. -/
def N : FVec Ideal S256x128 .f32 := k0_pay8 I.sn

/-- Head `h`'s state after chunk `j`, from the one before it. -/
def next (j : Fin 2) (h : Fin 4) (s : Vec Ideal S1x128x128 .f32) : Vec Ideal S1x128x128 .f32 :=
  nextV j h I.P I.C I.N s (ldC I.kd h)

/-- Head `h`'s columns of the mix in chunk `j`. -/
def mix (j : Fin 2) (h : Fin 4) (s : Vec Ideal S1x128x128 .f32) : Vec Ideal S128x128 .bf16 :=
  mixV j h I.P I.C I.N (ldH I.dm h) s (ldC I.qd h) (ldW I.gw h)

/-- An entry turned by its position's angle. -/
def turn (n : Fin 7) (h : Fin 4) (r : Fin 256) (d : Fin 128) : EReal :=
  I.P (ix2 r (pcol n h d)) * I.C (ix2 r d) + I.P (ix2 r (pcol n h (turned d))) * I.N (ix2 r d)

/-- Rotating a slice is slicing the rotated rows. -/
theorem turn_eq (j : Fin 2) (n : Fin 7) (h : Fin 4) (i d : Fin 128) :
    rotE (sliceP I.P j n h) (sliceC I.C j) (sliceC I.N j) i d = I.turn n h (row j i) d := by
  unfold rotE turn
  rw [sliceP_apply, sliceP_apply, sliceC_apply, sliceC_apply]

/-- An entry of a head's next state. -/
theorem next_apply (j : Fin 2) (h : Fin 4) (s : Vec Ideal S1x128x128 .f32) (a : Fin 1) (d e : Fin 128) :
    I.next j h s (ix3 a d e) = dec h * s (ix3 0 d e)
      + ∑ i : Fin 128, I.turn 1 h (row j i) d * I.kd (ix2 i (col h d)) * I.P (ix2 (row j i) (pcol 2 h e)) := by
  obtain rfl : a = 0 := Subsingleton.elim _ _
  unfold next nextV
  rw [headS_apply]
  simp only [turn_eq, ldC_apply, sliceP_apply]

/-- What head `h` reads at a row. -/
def out (j : Fin 2) (h : Fin 4) (s : Vec Ideal S1x128x128 .f32) (i e : Fin 128) : EReal :=
  (∑ i' : Fin 128, (∑ d : Fin 128, I.turn 0 h (row j i) d * I.turn 1 h (row j i') d) * I.dm (ix3 h i i') * I.P (ix2 (row j i') (pcol 2 h e)))
    + ∑ d : Fin 128, I.turn 0 h (row j i) d * I.qd (ix2 i (col h d)) * s (ix3 0 d e)

/-- An entry of a head's normed and gated rows. -/
theorem mix_apply (j : Fin 2) (h : Fin 4) (s : Vec Ideal S1x128x128 .f32) (i e : Fin 128) :
    I.mix j h s (ix2 i e) = gateE (I.P (ix2 (row j i) (pcol 3 h e))) * (normE (I.out j h s i) e * I.gw (ix2 0 (col h e))) := by
  unfold mix mixV
  rw [headY_apply, sliceP_apply, ldW_apply]
  have e1 : (fun d => headO (sliceP I.P j 0 h) (sliceP I.P j 1 h) (sliceP I.P j 2 h) (sliceC I.C j) (sliceC I.N j) (ldH I.dm h) s (ldC I.qd h) (ix2 i d)) = I.out j h s i := by
    funext d
    rw [headO_apply]
    unfold out
    simp only [turn_eq, ldC_apply, ldH_apply, sliceP_apply]
  rw [e1]

end Ins

end Cert.Mixer
-- ==== Proof.Mixer.Bridge.lean ====
/-
  The kernel's stores of one head, written out in its own order of operations, are the head's step and the head's columns.
-/
module

public import proofs.«01_k».proof.Proof.Mixer.Slices

@[expose] public section

set_option maxRecDepth 16384

noncomputable section

namespace Cert.Mixer

open Cert.KernelIdeal Cert.KernelIdeal.Gen
open Idealize.ShloMosaic

section Loads

variable (S : Vec Ideal S4x128x128 .f32) (K : Vec Ideal S128x512 .f32) (W : Vec Ideal S1x512 .f32)

/-- The body's load of head 0's square is the head slice. -/
theorem ldH_0 : View.ld S (Rect.unit ![0, 0, 0] ![1, 128, 128] inb_S4x128x128_S1x128x128_0_0_0) = ldH S 0 := rfl
/-- The body's load of head 1's square is the head slice. -/
theorem ldH_1 : View.ld S (Rect.unit ![1, 0, 0] ![1, 128, 128] inb_S4x128x128_S1x128x128_1_0_0) = ldH S 1 := rfl
/-- The body's load of head 2's square is the head slice. -/
theorem ldH_2 : View.ld S (Rect.unit ![2, 0, 0] ![1, 128, 128] inb_S4x128x128_S1x128x128_2_0_0) = ldH S 2 := rfl
/-- The body's load of head 3's square is the head slice. -/
theorem ldH_3 : View.ld S (Rect.unit ![3, 0, 0] ![1, 128, 128] inb_S4x128x128_S1x128x128_3_0_0) = ldH S 3 := rfl
/-- The body's load of head 0's columns is the column slice. -/
theorem ldC_0 : View.ld K (Rect.unit ![0, 0] ![128, 128] inb_S128x512_S128x128_0_0) = ldC K 0 := rfl
/-- The body's load of head 1's columns is the column slice. -/
theorem ldC_1 : View.ld K (Rect.unit ![0, 128] ![128, 128] inb_S128x512_S128x128_0_128) = ldC K 1 := rfl
/-- The body's load of head 2's columns is the column slice. -/
theorem ldC_2 : View.ld K (Rect.unit ![0, 256] ![128, 128] inb_S128x512_S128x128_0_256) = ldC K 2 := rfl
/-- The body's load of head 3's columns is the column slice. -/
theorem ldC_3 : View.ld K (Rect.unit ![0, 384] ![128, 128] inb_S128x512_S128x128_0_384) = ldC K 3 := rfl
/-- The body's load of head 0's norm weights is the weight slice. -/
theorem ldW_0 : View.ld W (Rect.unit ![0, 0] ![1, 128] inb_S1x512_S1x128_0_0) = ldW W 0 := rfl
/-- The body's load of head 1's norm weights is the weight slice. -/
theorem ldW_1 : View.ld W (Rect.unit ![0, 128] ![1, 128] inb_S1x512_S1x128_0_128) = ldW W 1 := rfl
/-- The body's load of head 2's norm weights is the weight slice. -/
theorem ldW_2 : View.ld W (Rect.unit ![0, 256] ![1, 128] inb_S1x512_S1x128_0_256) = ldW W 2 := rfl
/-- The body's load of head 3's norm weights is the weight slice. -/
theorem ldW_3 : View.ld W (Rect.unit ![0, 384] ![1, 128] inb_S1x512_S1x128_0_384) = ldW W 3 := rfl

end Loads

variable (x0 : Vec Ideal S1x256x1024 .f32) (x1 : Vec Ideal S1x1024 .f32) (x2 : Vec Ideal S1024x3584 .bf16)
variable (P : FVec Ideal S256x3584 .f32) (C N : FVec Ideal S256x128 .f32) (dm s : Vec Ideal S1x128x128 .f32) (kd qd : Vec Ideal S128x128 .f32) (w : Vec Ideal S1x128 .f32)

/-- Chunk 0, head 0: the state the body stores is the general next state. -/
theorem next_0_0 : k0_pay19 C N (k0_pay10 x0 x1 x2) (k0_pay11 x0 x1 x2) s kd = nextV 0 0 (k0_pay6 x0 x1 x2) C N s kd := rfl
/-- Chunk 0, head 1: the state the body stores is the general next state. -/
theorem next_0_1 : k0_pay32 (k0_pay22 P) (k0_pay25 N) (k0_pay27 P C) (k0_pay28 P) s kd = nextV 0 1 P C N s kd := rfl
/-- Chunk 0, head 2: the state the body stores is the general next state. -/
theorem next_0_2 : k0_pay44 (k0_pay40 P C N) (k0_pay41 P) s kd = nextV 0 2 P C N s kd := rfl
/-- Chunk 0, head 3: the state the body stores is the general next state. -/
theorem next_0_3 : k0_pay56 (k0_pay52 P C N) (k0_pay53 P) s kd = nextV 0 3 P C N s kd := rfl
/-- Chunk 1, head 0: the state the body stores is the general next state. -/
theorem next_1_0 : k0_pay69 (k0_pay64 P C N) (k0_pay65 P) (k0_pay67 s) kd = nextV 1 0 P C N s kd := rfl
/-- Chunk 1, head 1: the state the body stores is the general next state. -/
theorem next_1_1 : k0_pay80 (k0_pay77 s) (k0_pay79 P C N kd) (Named.named κ "decay1" 0x3E08698E#32) = nextV 1 1 P C N s kd := rfl
/-- Chunk 1, head 2: the state the body stores is the general next state. -/
theorem next_1_2 : k0_pay92 C N (k0_pay83 P) (k0_pay84 P) s kd = nextV 1 2 P C N s kd := rfl
/-- Chunk 1, head 3: the state the body stores is the general next state. -/
theorem next_1_3 : k0_pay105 (k0_pay95 P) (k0_pay98 N) (k0_pay100 P C) (k0_pay101 P) s kd = nextV 1 3 P C N s kd := rfl

/-- Chunk 0, head 0: the gated rows the body stores are the general ones. -/
theorem mix_0_0 : k0_pay20 (k0_pay12 x0 x1 x2) (k0_pay18 C N (k0_pay9 x0 x1 x2) (k0_pay10 x0 x1 x2) (k0_pay11 x0 x1 x2) dm s qd) w
    = mixV 0 0 (k0_pay6 x0 x1 x2) C N dm s qd w := rfl
/-- Chunk 0, head 1: the gated rows the body stores are the general ones. -/
theorem mix_0_1 : k0_pay35 (k0_pay23 P) (k0_pay33 (k0_pay22 P) (k0_pay25 N) (k0_pay26 P C N) (k0_pay27 P C) (k0_pay28 P) dm s qd)
      (k0_pay34 (k0_pay22 P) (k0_pay25 N) (k0_pay26 P C N) (k0_pay27 P C) (k0_pay28 P) dm s qd) w
    = mixV 0 1 P C N dm s qd w := rfl
/-- Chunk 0, head 2: the gated rows the body stores are the general ones. -/
theorem mix_0_2 : k0_pay47 (k0_pay36 P) (k0_pay45 (k0_pay39 P C N) (k0_pay41 P) (k0_pay42 P C N) dm s qd)
      (k0_pay46 (k0_pay39 P C N) (k0_pay41 P) (k0_pay42 P C N) dm s qd) w
    = mixV 0 2 P C N dm s qd w := rfl
/-- Chunk 0, head 3: the gated rows the body stores are the general ones. -/
theorem mix_0_3 : k0_pay59 (k0_pay48 P) (k0_pay57 (k0_pay51 P C N) (k0_pay54 P C N dm) s qd w) (k0_pay58 (k0_pay48 P))
    = mixV 0 3 P C N dm s qd w := rfl
/-- Chunk 1, head 0: the gated rows the body stores are the general ones. -/
theorem mix_1_0 : k0_pay71 (k0_pay70 (k0_pay60 P) (k0_pay66 P C N dm) (k0_pay68 P C N s qd) w)
    = mixV 1 0 P C N dm s qd w := rfl
/-- Chunk 1, head 1: the gated rows the body stores are the general ones. -/
theorem mix_1_1 : k0_pay81 (k0_pay72 P) (k0_pay78 P C N dm s qd) w = mixV 1 1 P C N dm s qd w := rfl
/-- Chunk 1, head 2: the gated rows the body stores are the general ones. -/
theorem mix_1_2 : k0_pay93 (k0_pay85 P) (k0_pay91 C N (k0_pay82 P) (k0_pay83 P) (k0_pay84 P) dm s qd) w
    = mixV 1 2 P C N dm s qd w := rfl
/-- Chunk 1, head 3: the gated rows the body stores are the general ones. -/
theorem mix_1_3 : k0_pay108 (k0_pay96 P) (k0_pay106 (k0_pay95 P) (k0_pay98 N) (k0_pay99 P C N) (k0_pay100 P C) (k0_pay101 P) dm s qd)
      (k0_pay107 (k0_pay95 P) (k0_pay98 N) (k0_pay99 P C N) (k0_pay100 P C) (k0_pay101 P) dm s qd) w
    = mixV 1 3 P C N dm s qd w := rfl

end Cert.Mixer
-- ==== Proof.Mixer.Carry.lean ====
/-
  The scratch that carries the last rows of the products from a tile to the next: eight carried rows above the tile's own.
-/
module

public import proofs.«01_k».proof.Proof.Mixer.Bridge
public import Idealize.ShloMosaic.Lib.Pipeline.ReadBack
public import Idealize.ShloMosaic.Lib.VecWindow

@[expose] public section

set_option maxRecDepth 16384

noncomputable section

namespace Cert.Mixer

open Cert.KernelIdeal Cert.KernelIdeal.Gen
open Idealize.ShloMosaic Idealize.ShloMosaic.Pipeline

/-- The carried rows above the tile's. -/
def carr (old : Fin 8 → Fin 512 → EReal) (new : Vec Ideal S256x512 .f32) : Vec Ideal S264x512 .f32 :=
  fun y => if h : (y (0 : Fin 2)).val < 8 then old ⟨(y (0 : Fin 2)).val, h⟩ (y (1 : Fin 2))
    else new (ix2 ⟨(y (0 : Fin 2)).val - 8, by have h2 : (y (0 : Fin 2)).val < 264 := (y (0 : Fin 2)).isLt; omega⟩ (y (1 : Fin 2)))

/-- The first eight rows of the convolution's buffer are the kept ones. -/
theorem carr_old (old : Fin 8 → Fin 512 → EReal) (new : Vec Ideal S256x512 .f32) (i : Fin 8) (d : Fin 512) :
    carr old new (ix2 ⟨i.val, by omega⟩ d) = old i d := dif_pos (show i.val < 8 from i.isLt)

/-- The rows after the eighth are the new ones. -/
theorem carr_new (old : Fin 8 → Fin 512 → EReal) (new : Vec Ideal S256x512 .f32) (i : Fin 256) (d : Fin 512) :
    carr old new (ix2 ⟨8 + i.val, by omega⟩ d) = new (ix2 i d) := by
  refine (dif_neg (show ¬8 + i.val < 8 by omega)).trans (congrArg new ?_)
  exact congrArg (fun r => ix2 r d) (Fin.ext (by show 8 + i.val - 8 = i.val; omega))

/-- The rectangle of the carried rows. -/
abbrev oldR : Rect S264x512 := Rect.unit ![0, 0] ![8, 512] inb_S264x512_S8x512_0_0
/-- The rectangle of the tile's rows. -/
abbrev newR : Rect S264x512 := Rect.unit ![8, 0] ![256, 512] inb_S264x512_S256x512_8_0

/-- The kept rows, written over the buffer's first rows, are the buffer's there. -/
theorem piece_old (w : Vec Ideal S8x512 .f32) (new : Vec Ideal S256x512 .f32) (x : oldR.shape.Idx) :
    w x = carr (fun i d => w (ix2 i d)) new (oldR.emb x) := by
  have e : oldR.emb x = ix2 ⟨(x (0 : Fin 2)).val, by have h : (x (0 : Fin 2)).val < 8 := (x (0 : Fin 2)).isLt; omega⟩ (x (1 : Fin 2)) := by
    funext a
    match a with
    | ⟨0, _⟩ => exact Fin.ext (by show 0 + 1 * (x (0 : Fin 2)).val = (x (0 : Fin 2)).val; omega)
    | ⟨1, _⟩ => exact Fin.ext (by show 0 + 1 * (x (1 : Fin 2)).val = (x (1 : Fin 2)).val; omega)
  rw [e]
  refine Eq.trans ?_ (carr_old (fun i d => w (ix2 i d)) new (x (0 : Fin 2)) (x (1 : Fin 2))).symm
  refine congrArg w (funext fun a => ?_)
  match a with
  | ⟨0, _⟩ => rfl
  | ⟨1, _⟩ => rfl

/-- The new rows, written below, are the buffer's there. -/
theorem piece_new (old : Fin 8 → Fin 512 → EReal) (new : Vec Ideal S256x512 .f32) (x : newR.shape.Idx) :
    new x = carr old new (newR.emb x) := by
  have e : newR.emb x = ix2 ⟨8 + (x (0 : Fin 2)).val, by have h : (x (0 : Fin 2)).val < 256 := (x (0 : Fin 2)).isLt; omega⟩ (x (1 : Fin 2)) := by
    funext a
    match a with
    | ⟨0, _⟩ => exact Fin.ext (by show 8 + 1 * (x (0 : Fin 2)).val = 8 + (x (0 : Fin 2)).val; omega)
    | ⟨1, _⟩ => exact Fin.ext (by show 0 + 1 * (x (1 : Fin 2)).val = (x (1 : Fin 2)).val; omega)
  rw [e]
  refine Eq.trans ?_ (carr_new old new (x (0 : Fin 2)) (x (1 : Fin 2))).symm
  refine congrArg new (funext fun a => ?_)
  match a with
  | ⟨0, _⟩ => rfl
  | ⟨1, _⟩ => rfl

/-- A row below eight lies in the kept rows' rectangle. -/
theorem mem_oldR (y : S264x512.Idx) (h : (y (0 : Fin 2)).val < 8) : y ∈ oldR.set :=
  Rect.mem_set_unit.mpr fun a => by
    match a with
    | ⟨0, _⟩ => exact ⟨Nat.zero_le _, by show (y (0 : Fin 2)).val < 0 + 8; omega⟩
    | ⟨1, _⟩ => exact ⟨Nat.zero_le _, by have h1 : (y (1 : Fin 2)).val < 512 := (y (1 : Fin 2)).isLt; show (y (1 : Fin 2)).val < 0 + 512; omega⟩

/-- A row from eight on lies in the new rows' rectangle. -/
theorem mem_newR (y : S264x512.Idx) (h : 8 ≤ (y (0 : Fin 2)).val) : y ∈ newR.set :=
  Rect.mem_set_unit.mpr fun a => by
    match a with
    | ⟨0, _⟩ => exact ⟨h, by have h1 : (y (0 : Fin 2)).val < 264 := (y (0 : Fin 2)).isLt; show (y (0 : Fin 2)).val < 8 + 256; omega⟩
    | ⟨1, _⟩ => exact ⟨Nat.zero_le _, by have h1 : (y (1 : Fin 2)).val < 512 := (y (1 : Fin 2)).isLt; show (y (1 : Fin 2)).val < 0 + 512; omega⟩

/-- Both stores read back, the carried rows' the later. -/
theorem canon_old_new (w : Vec Ideal S8x512 .f32) (new : Vec Ideal S256x512 .f32) (L : List (View.Piece (Elt Ideal) S264x512 .f32)) :
    View.canon (⟨oldR, w⟩ :: ⟨newR, new⟩ :: L) = carr (fun i d => w (ix2 i d)) new := by
  funext y
  refine View.canon_append_of_piecesOf (carr (fun i d => w (ix2 i d)) new) L [⟨oldR, w⟩, ⟨newR, new⟩]
    ⟨piece_old w new, piece_new _ new, trivial⟩ y ?_
  by_cases h : (y (0 : Fin 2)).val < 8
  · exact ⟨_, List.mem_cons_self, mem_oldR y h⟩
  · exact ⟨_, List.mem_cons_of_mem _ List.mem_cons_self, mem_newR y (by omega)⟩

/-- Both stores read back, the tile's rows' the later. -/
theorem canon_new_old (w : Vec Ideal S8x512 .f32) (new : Vec Ideal S256x512 .f32) :
    View.canon [⟨newR, new⟩, ⟨oldR, w⟩] = carr (fun i d => w (ix2 i d)) new := by
  funext y
  refine View.canon_append_of_piecesOf (carr (fun i d => w (ix2 i d)) new) [] [⟨newR, new⟩, ⟨oldR, w⟩]
    ⟨piece_new _ new, piece_old w new, trivial⟩ y ?_
  by_cases h : (y (0 : Fin 2)).val < 8
  · exact ⟨_, List.mem_cons_of_mem _ List.mem_cons_self, mem_oldR y h⟩
  · exact ⟨_, List.mem_cons_self, mem_newR y (by omega)⟩

/-- A load after both stores. -/
theorem load_new_old (w : Vec Ideal S8x512 .f32) (new : Vec Ideal S256x512 .f32) (B : Rect S264x512) :
    (View.whole cc0_scratch1).readCov
      [⟨Rect.unit ![8, 0] ![256, 512] inb_S264x512_S256x512_8_0, new⟩, ⟨Rect.unit ![0, 0] ![8, 512] inb_S264x512_S8x512_0_0, w⟩] B.toLoadRect = View.ld (carr (fun i d => w (ix2 i d)) new) B := by
  refine (View.readCov_eq_canon' (View.whole cc0_scratch1) _ _).trans ?_
  funext x
  exact congrFun (canon_new_old w new) _

/-- The tile's rows stored over what was carried. -/
theorem read_over_carried (f : cc0_scratch1.ty.Contents (Elt Ideal)) (new : Vec Ideal S256x512 .f32) :
    View.read (Elt Ideal) (View.whole cc0_scratch1) ((View.whole cc0_scratch1).writes (Elt Ideal) f [⟨Rect.unit ![8, 0] ![256, 512] inb_S264x512_S256x512_8_0, new⟩])
      = carr (fun i d => View.read (Elt Ideal) (View.whole cc0_scratch1) f (ix2 ⟨i.val, by omega⟩ d)) new := by
  funext y
  by_cases hy : (y (0 : Fin 2)).val < 8
  · refine (View.read_writes_cons_unit_of_not_mem (off' := ![8, 0]) (View.whole cc0_scratch1) f inb_S264x512_S256x512_8_0 new [] y rfl (0 : Fin 2)
      (Or.inl (show (y (0 : Fin 2)).val < 8 from hy))).trans ?_
    rw [View.writes_nil]
    have e : y = ix2 ⟨(⟨(y (0 : Fin 2)).val, hy⟩ : Fin 8).val, by have := (y (0 : Fin 2)).isLt; omega⟩ (y (1 : Fin 2)) := by
      funext a
      match a with
      | ⟨0, _⟩ => rfl
      | ⟨1, _⟩ => rfl
    rw [e]
    exact (carr_old (fun i d => View.read (Elt Ideal) (View.whole cc0_scratch1) f (ix2 ⟨i.val, by omega⟩ d)) new _ _).symm
  · refine (View.read_writes_apply_eq_canon (View.whole cc0_scratch1) f y [⟨newR, new⟩]
      ⟨⟨newR, new⟩, List.mem_cons_self, mem_newR y (by omega)⟩).trans ?_
    exact View.canon_append_of_piecesOf (carr (fun i d => View.read (Elt Ideal) (View.whole cc0_scratch1) f (ix2 ⟨i.val, by omega⟩ d)) new) [] [⟨newR, new⟩] ⟨piece_new _ new, trivial⟩ y
      ⟨⟨newR, new⟩, List.mem_cons_self, mem_newR y (by omega)⟩

/-- The tile's last eight rows, read back from its rows and whatever lies above. -/
theorem tail_read (new : Vec Ideal S256x512 .f32) (L : List (View.Piece (Elt Ideal) S264x512 .f32)) (i : Fin 8) (d : Fin 512) :
    (show Vec Ideal S8x512 .f32 from
        (View.whole cc0_scratch1).readCov (⟨newR, new⟩ :: L) (Rect.unit (s := S264x512) ![256, 0] ![8, 512] inb_S264x512_S8x512_256_0).toLoadRect) (ix2 i d)
      = new (ix2 ⟨248 + i.val, by omega⟩ d) := by
  have e : (Rect.unit (s := S264x512) ![256, 0] ![8, 512] inb_S264x512_S8x512_256_0).toLoadRect.idx (ix2 i d)
      = ix2 ⟨8 + (⟨248 + i.val, by omega⟩ : Fin 256).val, by show 8 + (248 + i.val) < 264; omega⟩ d := by
    funext a
    match a with
    | ⟨0, _⟩ => exact Fin.ext (by show 256 + 1 * i.val = 8 + (248 + i.val); omega)
    | ⟨1, _⟩ => exact Fin.ext (by show 0 + 1 * d.val = d.val; omega)
  refine (congrFun (View.readCov_eq_canon' (View.whole cc0_scratch1) (⟨newR, new⟩ :: L) _) _).trans ?_
  rw [e]
  refine (View.canon_append_of_piecesOf (carr (fun _ _ => 0) new) L [⟨newR, new⟩] ⟨piece_new _ new, trivial⟩ _
    ⟨⟨newR, new⟩, List.mem_cons_self, mem_newR _ (by show 8 ≤ 8 + (248 + i.val); omega)⟩).trans ?_
  exact carr_new _ new _ d

end Cert.Mixer
-- ==== Proof.Mixer.Open.lean ====
/-
  What one point leaves in the carried state, as the head's steps.
-/
module

public import proofs.«01_k».proof.Proof.Gen.KernelIdeal.Frame
public import proofs.«01_k».proof.Proof.Mixer.Carry
public import Idealize.ShloMosaic.Lib.Pipeline.ReadBack

@[expose] public section

set_option maxRecDepth 16384

noncomputable section

namespace Cert.Mixer

open Cert.KernelIdeal Cert.KernelIdeal.Gen
open Idealize.ShloMosaic Idealize.ShloMosaic.Pipeline Idealize.ShloMosaic.TcCoe

namespace Ins
variable (I : Ins)

/-- Head `h`'s state after the tile's first chunk. -/
def s1 (h : Fin 4) : Vec Ideal S1x128x128 .f32 := I.next 0 h (ldH I.st h)
/-- Head `h`'s state after the tile's second chunk. -/
def s2 (h : Fin 4) : Vec Ideal S1x128x128 .f32 := I.next 1 h (I.s1 h)

/-- The state the point leaves. -/
def st2 : Vec Ideal S4x128x128 .f32 := fun y => I.s2 (y (0 : Fin 3)) (ix3 0 (y (1 : Fin 3)) (y (2 : Fin 3)))

/-- The four heads' stores together are the whole state. -/
theorem canon_state (a3 a2 a1 a0 : Vec Ideal S1x128x128 .f32) (L : List (View.Piece (Elt Ideal) S4x128x128 .f32))
    (e3 : a3 = I.s2 3) (e2 : a2 = I.s2 2) (e1 : a1 = I.s2 1) (e0 : a0 = I.s2 0) :
    View.canon (⟨Rect.unit ![3, 0, 0] ![1, 128, 128] inb_S4x128x128_S1x128x128_3_0_0, a3⟩
      :: ⟨Rect.unit ![2, 0, 0] ![1, 128, 128] inb_S4x128x128_S1x128x128_2_0_0, a2⟩
      :: ⟨Rect.unit ![1, 0, 0] ![1, 128, 128] inb_S4x128x128_S1x128x128_1_0_0, a1⟩
      :: ⟨Rect.unit ![0, 0, 0] ![1, 128, 128] inb_S4x128x128_S1x128x128_0_0_0, a0⟩ :: L) = I.st2 := by
  rw [e3, e2, e1, e0]
  funext y
  have hv : ∀ (h : Fin 4) (inb) (x : (Rect.unit (s := S4x128x128) ![h.val, 0, 0] ![1, 128, 128] inb).shape.Idx),
      I.s2 h x = I.st2 ((Rect.unit (s := S4x128x128) ![h.val, 0, 0] ![1, 128, 128] inb).emb x) := fun h inb x => by
    have e : (Rect.unit (s := S4x128x128) ![h.val, 0, 0] ![1, 128, 128] inb).emb x = ix3 h (x (1 : Fin 3)) (x (2 : Fin 3)) := by
      funext a
      match a with
      | ⟨0, _⟩ => exact Fin.ext (by have h0 : (x (0 : Fin 3)).val < 1 := (x (0 : Fin 3)).isLt; show h.val + 1 * (x (0 : Fin 3)).val = h.val; omega)
      | ⟨1, _⟩ => exact Fin.ext (by show 0 + 1 * (x (1 : Fin 3)).val = (x (1 : Fin 3)).val; omega)
      | ⟨2, _⟩ => exact Fin.ext (by show 0 + 1 * (x (2 : Fin 3)).val = (x (2 : Fin 3)).val; omega)
    rw [e]
    refine congrArg (I.s2 h) (funext fun a => ?_)
    match a with
    | ⟨0, _⟩ => exact Fin.ext (by have h0 : (x (0 : Fin 3)).val < 1 := (x (0 : Fin 3)).isLt; show (x (0 : Fin 3)).val = 0; omega)
    | ⟨1, _⟩ => rfl
    | ⟨2, _⟩ => rfl
  have hm : ∀ (h : Fin 4) (inb), y (0 : Fin 3) = h → y ∈ (Rect.unit (s := S4x128x128) ![h.val, 0, 0] ![1, 128, 128] inb).set := fun h inb hy =>
    Rect.mem_set_unit.mpr fun a => by
      match a with
      | ⟨0, _⟩ => exact ⟨by show h.val ≤ (y (0 : Fin 3)).val; rw [hy], by show (y (0 : Fin 3)).val < h.val + 1; rw [hy]; omega⟩
      | ⟨1, _⟩ => exact ⟨Nat.zero_le _, by have h1 : (y (1 : Fin 3)).val < 128 := (y (1 : Fin 3)).isLt; show (y (1 : Fin 3)).val < 0 + 128; omega⟩
      | ⟨2, _⟩ => exact ⟨Nat.zero_le _, by have h1 : (y (2 : Fin 3)).val < 128 := (y (2 : Fin 3)).isLt; show (y (2 : Fin 3)).val < 0 + 128; omega⟩
  refine View.canon_append_of_piecesOf I.st2 L
    [⟨Rect.unit ![3, 0, 0] ![1, 128, 128] inb_S4x128x128_S1x128x128_3_0_0, I.s2 3⟩,
     ⟨Rect.unit ![2, 0, 0] ![1, 128, 128] inb_S4x128x128_S1x128x128_2_0_0, I.s2 2⟩,
     ⟨Rect.unit ![1, 0, 0] ![1, 128, 128] inb_S4x128x128_S1x128x128_1_0_0, I.s2 1⟩,
     ⟨Rect.unit ![0, 0, 0] ![1, 128, 128] inb_S4x128x128_S1x128x128_0_0_0, I.s2 0⟩]
    ⟨hv 3 inb_S4x128x128_S1x128x128_3_0_0, hv 2 inb_S4x128x128_S1x128x128_2_0_0, hv 1 inb_S4x128x128_S1x128x128_1_0_0,
      hv 0 inb_S4x128x128_S1x128x128_0_0_0, trivial⟩ y ?_
  have h4 : ∀ h : Fin 4, h = 0 ∨ h = 1 ∨ h = 2 ∨ h = 3 := by decide
  rcases h4 (y (0 : Fin 3)) with h | h | h | h
  · exact ⟨_, List.mem_cons_of_mem _ (List.mem_cons_of_mem _ (List.mem_cons_of_mem _ List.mem_cons_self)), hm 0 inb_S4x128x128_S1x128x128_0_0_0 h⟩
  · exact ⟨_, List.mem_cons_of_mem _ (List.mem_cons_of_mem _ List.mem_cons_self), hm 1 inb_S4x128x128_S1x128x128_1_0_0 h⟩
  · exact ⟨_, List.mem_cons_of_mem _ List.mem_cons_self, hm 2 inb_S4x128x128_S1x128x128_2_0_0 h⟩
  · exact ⟨_, List.mem_cons_self, hm 3 inb_S4x128x128_S1x128x128_3_0_0 h⟩

/-- The products the convolution shifts. -/
def cu : Vec Ideal S256x512 .f32 := k0_pay110 I.P

/-- The convolution's columns of the mix. -/
def conv : Vec Ideal S256x512 .bf16 :=
  k0_pay112 (k0_pay109 I.P) (k0_pay111 (View.ld I.cw (Rect.unit ![2, 0] ![1, 512] inb_S3x512_S1x512_2_0)) I.cu)
    (View.ld I.cw (Rect.unit ![1, 0] ![1, 512] inb_S3x512_S1x512_1_0))
    (View.ld (carr I.old I.cu) (Rect.unit ![7, 0] ![256, 512] inb_S264x512_S256x512_7_0))
    (View.ld I.cw (Rect.unit ![0, 0] ![1, 512] inb_S3x512_S1x512_0_0))
    (View.ld (carr I.old I.cu) (Rect.unit ![6, 0] ![256, 512] inb_S264x512_S256x512_6_0))

/-- The stores to the mix, last first. -/
def mixList : List (View.Piece (Elt Ideal) S256x1024 .bf16) :=
  [⟨Rect.unit ![0, 512] ![256, 512] inb_S256x1024_S256x512_0_512, I.conv⟩,
   ⟨Rect.unit ![128, 384] ![128, 128] inb_S256x1024_S128x128_128_384, I.mix 1 3 (I.s1 3)⟩,
   ⟨Rect.unit ![128, 256] ![128, 128] inb_S256x1024_S128x128_128_256, I.mix 1 2 (I.s1 2)⟩,
   ⟨Rect.unit ![128, 128] ![128, 128] inb_S256x1024_S128x128_128_128, I.mix 1 1 (I.s1 1)⟩,
   ⟨Rect.unit ![128, 0] ![128, 128] inb_S256x1024_S128x128_128_0, I.mix 1 0 (I.s1 0)⟩,
   ⟨Rect.unit ![0, 384] ![128, 128] inb_S256x1024_S128x128_0_384, I.mix 0 3 (ldH I.st 3)⟩,
   ⟨Rect.unit ![0, 256] ![128, 128] inb_S256x1024_S128x128_0_256, I.mix 0 2 (ldH I.st 2)⟩,
   ⟨Rect.unit ![0, 128] ![128, 128] inb_S256x1024_S128x128_0_128, I.mix 0 1 (ldH I.st 1)⟩,
   ⟨Rect.unit ![0, 0] ![128, 128] inb_S256x1024_S128x128_0_0, I.mix 0 0 (ldH I.st 0)⟩]

/-- The tile the point writes out. -/
def tile : Vec Ideal S1x256x1024 .f32 :=
  k0_pay115 (k0_pay5 I.x)
    ((View.whole cc0_scratch2).readCov I.mixList (Rect.unit (s := S256x1024) ![0, 0] ![256, 1024] inb_S256x1024_S256x1024_0_0).toLoadRect) I.wo

/-- The products' rows the point leaves: its last eight above all of its own. -/
def tail : Vec Ideal S264x512 .f32 := carr (fun i d => I.cu (ix2 ⟨248 + i.val, by omega⟩ d)) I.cu

end Ins

variable (m : (ℓ : Loc nD τ sig) → Buf (Elt Ideal) ℓ)

/-- What point `t` reads, `s` and `o` being carried to it. -/
def insAt (c : Dev nD) (t : Fin cfg0.N) (s : Vec Ideal S4x128x128 .f32) (o : Fin 8 → Fin 512 → EReal) : Ins :=
  ⟨iblk m c 0 t, iblk m c 1 t, iblk m c 2 t, iblk m c 3 t, iblk m c 4 t, iblk m c 5 t, iblk m c 6 t, iblk m c 7 t, iblk m c 8 t, iblk m c 9 t, iblk m c 10 t, s, o⟩

/-- What a point with no reset reads. -/
def insB (c : Dev nD) (t : Fin cfg0.N) : Ins :=
  insAt m c t (outsAt0 m c (t.val - 1) (by omega)).2.2.2.2.1
    (fun i d => (outsAt0 m c (t.val - 1) (by omega)).2.2.2.2.2.1 (ix2 ⟨i.val, by omega⟩ d))

/-- What a point with a reset reads. -/
def insA (c : Dev nD) (t : Fin cfg0.N) : Ins := insAt m c t (k0_pay2 (F := Ideal)) (fun i d => k0_pay3 (F := Ideal) (ix2 i d))

/-- The kept rows stored at the end are the buffer's last eight. -/
theorem tail_store (new : Vec Ideal S256x512 .f32) (L : List (View.Piece (Elt Ideal) S264x512 .f32)) :
    View.canon (⟨oldR, k0_pay113 ((View.whole cc0_scratch1).readCov (⟨newR, new⟩ :: L) (Rect.unit (s := S264x512) ![256, 0] ![8, 512] inb_S264x512_S8x512_256_0).toLoadRect)⟩
        :: ⟨newR, new⟩ :: L)
      = carr (fun i d => new (ix2 ⟨248 + i.val, by omega⟩ d)) new := by
  rw [canon_old_new]
  congr 1
  funext i d
  rw [tail_apply]
  exact tail_read new L i d

/-- The state a point leaves, inside a batch. -/
theorem state_B (c : Dev nD) (t : Fin cfg0.N) (h0 : ¬t.val % 16 = 0) (h1 : ¬t.val % 64 = 0) :
    (outsAt0 m c t.val t.isLt).2.2.2.2.1 = (insB m c t).st2 := by
  rw [outsAt0_B m c t h0 h1]
  frame_open
  simp (disch := decide) only [↓ View.readCov_skip, ↓ View.readCov_cons_toLoadRect, ↓ View.readCov_fill]
  frame_out
  try simp only [read_unread_whole]
  simp only [next_0_0, next_0_1, next_0_2, next_0_3, next_1_0, next_1_1, next_1_2, next_1_3,
    ldH_0, ldH_1, ldH_2, ldH_3, ldC_0, ldC_1, ldC_2, ldC_3]
  refine (insB m c t).canon_state _ _ _ _ _ ?_ ?_ ?_ ?_
  all_goals simp only [Ins.s2, Ins.s1, Ins.next, insB, insAt, Ins.P, Ins.C, Ins.N] <;> rfl

/-- The state a point leaves, at the first point of all. -/
theorem state_A (c : Dev nD) (t : Fin cfg0.N) (h0 : t.val % 16 = 0) (h1 : t.val % 64 = 0) :
    (outsAt0 m c t.val t.isLt).2.2.2.2.1 = (insA m c t).st2 := by
  rw [outsAt0_A m c t h0 h1]
  frame_open
  simp (disch := decide) only [↓ View.readCov_skip, ↓ View.readCov_cons_toLoadRect, ↓ View.readCov_fill]
  frame_out
  simp only [next_0_0, next_0_1, next_0_2, next_0_3, next_1_0, next_1_1, next_1_2, next_1_3,
    ldH_0, ldH_1, ldH_2, ldH_3, ldC_0, ldC_1, ldC_2, ldC_3]
  refine (insA m c t).canon_state _ _ _ _ _ ?_ ?_ ?_ ?_
  all_goals simp only [Ins.s2, Ins.s1, Ins.next, insA, insAt, Ins.P, Ins.C, Ins.N] <;> rfl

/-- The state a point leaves, at a later batch's start. -/
theorem state_C (c : Dev nD) (t : Fin cfg0.N) (h0 : t.val % 16 = 0) (h1 : ¬t.val % 64 = 0) :
    (outsAt0 m c t.val t.isLt).2.2.2.2.1 = (insA m c t).st2 := by
  rw [outsAt0_C m c t h0 h1]
  frame_open
  simp (disch := decide) only [↓ View.readCov_skip, ↓ View.readCov_cons_toLoadRect, ↓ View.readCov_fill]
  frame_out
  simp only [next_0_0, next_0_1, next_0_2, next_0_3, next_1_0, next_1_1, next_1_2, next_1_3,
    ldH_0, ldH_1, ldH_2, ldH_3, ldC_0, ldC_1, ldC_2, ldC_3]
  refine (insA m c t).canon_state _ _ _ _ _ ?_ ?_ ?_ ?_
  all_goals simp only [Ins.s2, Ins.s1, Ins.next, insA, insAt, Ins.P, Ins.C, Ins.N] <;> rfl

/-- The kept rows a point leaves, inside a batch. -/
theorem tail_B (c : Dev nD) (t : Fin cfg0.N) (h0 : ¬t.val % 16 = 0) (h1 : ¬t.val % 64 = 0) :
    (outsAt0 m c t.val t.isLt).2.2.2.2.2.1 = (insB m c t).tail := by
  rw [outsAt0_B m c t h0 h1]
  frame_open
  simp (disch := decide) only [↓ View.readCov_skip, ↓ View.readCov_cons_toLoadRect, ↓ View.readCov_fill]
  frame_out
  exact tail_store _ _

/-- The kept rows a point leaves, at the first point of all. -/
theorem tail_A (c : Dev nD) (t : Fin cfg0.N) (h0 : t.val % 16 = 0) (h1 : t.val % 64 = 0) :
    (outsAt0 m c t.val t.isLt).2.2.2.2.2.1 = (insA m c t).tail := by
  rw [outsAt0_A m c t h0 h1]
  frame_open
  simp (disch := decide) only [↓ View.readCov_skip, ↓ View.readCov_cons_toLoadRect, ↓ View.readCov_fill]
  frame_out
  exact tail_store _ _

/-- The kept rows a point leaves, at a later batch's start. -/
theorem tail_C (c : Dev nD) (t : Fin cfg0.N) (h0 : t.val % 16 = 0) (h1 : ¬t.val % 64 = 0) :
    (outsAt0 m c t.val t.isLt).2.2.2.2.2.1 = (insA m c t).tail := by
  rw [outsAt0_C m c t h0 h1]
  frame_open
  simp (disch := decide) only [↓ View.readCov_skip, ↓ View.readCov_cons_toLoadRect, ↓ View.readCov_fill]
  frame_out
  exact tail_store _ _

/-- The convolution's store at a reset. -/
theorem conv_reset (P : FVec Ideal S256x3584 .f32) (cw : Vec Ideal S3x512 .f32) :
    (⟨Rect.unit ![0, 512] ![256, 512] inb_S256x1024_S256x512_0_512,
      k0_pay112 (k0_pay109 P) (k0_pay111 (View.ld cw (Rect.unit ![2, 0] ![1, 512] inb_S3x512_S1x512_2_0)) (k0_pay110 P))
        (View.ld cw (Rect.unit ![1, 0] ![1, 512] inb_S3x512_S1x512_1_0))
        ((View.whole cc0_scratch1).readCov [⟨newR, k0_pay110 P⟩, ⟨oldR, k0_pay3 (F := Ideal)⟩] (Rect.unit (s := S264x512) ![7, 0] ![256, 512] inb_S264x512_S256x512_7_0).toLoadRect)
        (View.ld cw (Rect.unit ![0, 0] ![1, 512] inb_S3x512_S1x512_0_0))
        ((View.whole cc0_scratch1).readCov [⟨newR, k0_pay110 P⟩, ⟨oldR, k0_pay3 (F := Ideal)⟩] (Rect.unit (s := S264x512) ![6, 0] ![256, 512] inb_S264x512_S256x512_6_0).toLoadRect)⟩
      : View.Piece (Elt Ideal) S256x1024 .bf16)
    = ⟨Rect.unit ![0, 512] ![256, 512] inb_S256x1024_S256x512_0_512,
      k0_pay112 (k0_pay109 P) (k0_pay111 (View.ld cw (Rect.unit ![2, 0] ![1, 512] inb_S3x512_S1x512_2_0)) (k0_pay110 P))
        (View.ld cw (Rect.unit ![1, 0] ![1, 512] inb_S3x512_S1x512_1_0))
        (View.ld (carr (fun i d => k0_pay3 (F := Ideal) (ix2 i d)) (k0_pay110 P)) (Rect.unit ![7, 0] ![256, 512] inb_S264x512_S256x512_7_0))
        (View.ld cw (Rect.unit ![0, 0] ![1, 512] inb_S3x512_S1x512_0_0))
        (View.ld (carr (fun i d => k0_pay3 (F := Ideal) (ix2 i d)) (k0_pay110 P)) (Rect.unit ![6, 0] ![256, 512] inb_S264x512_S256x512_6_0))⟩ :=
  congrArg₂ (fun a b => (⟨Rect.unit ![0, 512] ![256, 512] inb_S256x1024_S256x512_0_512,
      k0_pay112 (k0_pay109 P) (k0_pay111 (View.ld cw (Rect.unit ![2, 0] ![1, 512] inb_S3x512_S1x512_2_0)) (k0_pay110 P))
        (View.ld cw (Rect.unit ![1, 0] ![1, 512] inb_S3x512_S1x512_1_0)) a
        (View.ld cw (Rect.unit ![0, 0] ![1, 512] inb_S3x512_S1x512_0_0)) b⟩ : View.Piece (Elt Ideal) S256x1024 .bf16))
    (load_new_old (k0_pay3 (F := Ideal)) (k0_pay110 P) (Rect.unit (s := S264x512) ![7, 0] ![256, 512] inb_S264x512_S256x512_7_0))
    (load_new_old (k0_pay3 (F := Ideal)) (k0_pay110 P) (Rect.unit (s := S264x512) ![6, 0] ![256, 512] inb_S264x512_S256x512_6_0))

/-- The convolution's store over what was carried. -/
theorem conv_carried (f : cc0_scratch1.ty.Contents (Elt Ideal)) (P : FVec Ideal S256x3584 .f32) (cw : Vec Ideal S3x512 .f32) :
    (⟨Rect.unit ![0, 512] ![256, 512] inb_S256x1024_S256x512_0_512,
      k0_pay112 (k0_pay109 P) (k0_pay111 (View.ld cw (Rect.unit ![2, 0] ![1, 512] inb_S3x512_S1x512_2_0)) (k0_pay110 P))
        (View.ld cw (Rect.unit ![1, 0] ![1, 512] inb_S3x512_S1x512_1_0))
        (View.ld (View.read (Elt Ideal) (View.whole cc0_scratch1) ((View.whole cc0_scratch1).writes (Elt Ideal) f [⟨newR, k0_pay110 P⟩])) (Rect.unit (s := S264x512) ![7, 0] ![256, 512] inb_S264x512_S256x512_7_0))
        (View.ld cw (Rect.unit ![0, 0] ![1, 512] inb_S3x512_S1x512_0_0))
        (View.ld (View.read (Elt Ideal) (View.whole cc0_scratch1) ((View.whole cc0_scratch1).writes (Elt Ideal) f [⟨newR, k0_pay110 P⟩])) (Rect.unit (s := S264x512) ![6, 0] ![256, 512] inb_S264x512_S256x512_6_0))⟩
      : View.Piece (Elt Ideal) S256x1024 .bf16)
    = ⟨Rect.unit ![0, 512] ![256, 512] inb_S256x1024_S256x512_0_512,
      k0_pay112 (k0_pay109 P) (k0_pay111 (View.ld cw (Rect.unit ![2, 0] ![1, 512] inb_S3x512_S1x512_2_0)) (k0_pay110 P))
        (View.ld cw (Rect.unit ![1, 0] ![1, 512] inb_S3x512_S1x512_1_0))
        (View.ld (carr (fun i d => View.read (Elt Ideal) (View.whole cc0_scratch1) f (ix2 ⟨i.val, by omega⟩ d)) (k0_pay110 P)) (Rect.unit ![7, 0] ![256, 512] inb_S264x512_S256x512_7_0))
        (View.ld cw (Rect.unit ![0, 0] ![1, 512] inb_S3x512_S1x512_0_0))
        (View.ld (carr (fun i d => View.read (Elt Ideal) (View.whole cc0_scratch1) f (ix2 ⟨i.val, by omega⟩ d)) (k0_pay110 P)) (Rect.unit ![6, 0] ![256, 512] inb_S264x512_S256x512_6_0))⟩ :=
  congrArg₂ (fun a b => (⟨Rect.unit ![0, 512] ![256, 512] inb_S256x1024_S256x512_0_512,
      k0_pay112 (k0_pay109 P) (k0_pay111 (View.ld cw (Rect.unit ![2, 0] ![1, 512] inb_S3x512_S1x512_2_0)) (k0_pay110 P))
        (View.ld cw (Rect.unit ![1, 0] ![1, 512] inb_S3x512_S1x512_1_0)) a
        (View.ld cw (Rect.unit ![0, 0] ![1, 512] inb_S3x512_S1x512_0_0)) b⟩ : View.Piece (Elt Ideal) S256x1024 .bf16))
    (congrArg (fun X => View.ld X (Rect.unit (s := S264x512) ![7, 0] ![256, 512] inb_S264x512_S256x512_7_0)) (read_over_carried f (k0_pay110 P)))
    (congrArg (fun X => View.ld X (Rect.unit (s := S264x512) ![6, 0] ![256, 512] inb_S264x512_S256x512_6_0)) (read_over_carried f (k0_pay110 P)))

/-- The tile a point writes, inside a batch. -/
theorem tile_B (c : Dev nD) (t : Fin cfg0.N) (h0 : ¬t.val % 16 = 0) (h1 : ¬t.val % 64 = 0) :
    (outsAt0 m c t.val t.isLt).1 = (insB m c t).tile := by
  rw [outsAt0_B m c t h0 h1]
  frame_open
  simp (disch := decide) only [↓ View.readCov_skip, ↓ View.readCov_cons_toLoadRect, ↓ View.readCov_fill]
  frame_out
  simp only [next_0_0, next_0_1, next_0_2, next_0_3, mix_0_0, mix_0_1, mix_0_2, mix_0_3, mix_1_0, mix_1_1, mix_1_2, mix_1_3,
    ldH_0, ldH_1, ldH_2, ldH_3, ldC_0, ldC_1, ldC_2, ldC_3, ldW_0, ldW_1, ldW_2, ldW_3]
  simp only [Ins.tile, Ins.mixList, Ins.conv, Ins.cu, Ins.mix, Ins.s1, Ins.next, insB, insAt, Ins.P, Ins.C, Ins.N]
  refine congrArg₂ (fun a b => k0_pay115 (F := Ideal) (k0_pay5 (iblk m c 0 t)) a b) ?_ rfl
  refine congrArg (fun L => (View.whole cc0_scratch2).readCov L (Rect.unit (s := S256x1024) ![0, 0] ![256, 1024] inb_S256x1024_S256x1024_0_0).toLoadRect) ?_
  refine congrArg₂ List.cons (Eq.trans (conv_carried _ (k0_pay6 (iblk m c 0 t) (iblk m c 1 t) (iblk m c 2 t)) (iblk m c 9 t)) ?_) ?_
  · simp only [read_unread_whole]
  · simp only [read_unread_whole]

/-- The tile a point writes, at the first point of all. -/
theorem tile_A (c : Dev nD) (t : Fin cfg0.N) (h0 : t.val % 16 = 0) (h1 : t.val % 64 = 0) :
    (outsAt0 m c t.val t.isLt).1 = (insA m c t).tile := by
  rw [outsAt0_A m c t h0 h1]
  frame_open
  simp (disch := decide) only [↓ View.readCov_skip, ↓ View.readCov_cons_toLoadRect, ↓ View.readCov_fill]
  frame_out
  simp only [next_0_0, next_0_1, next_0_2, next_0_3, mix_0_0, mix_0_1, mix_0_2, mix_0_3, mix_1_0, mix_1_1, mix_1_2, mix_1_3,
    ldH_0, ldH_1, ldH_2, ldH_3, ldC_0, ldC_1, ldC_2, ldC_3, ldW_0, ldW_1, ldW_2, ldW_3]
  simp only [Ins.tile, Ins.mixList, Ins.conv, Ins.cu, Ins.mix, Ins.s1, Ins.next, insA, insAt, Ins.P, Ins.C, Ins.N]
  refine congrArg₂ (fun a b => k0_pay115 (F := Ideal) (k0_pay5 (iblk m c 0 t)) a b) ?_ rfl
  refine congrArg (fun L => (View.whole cc0_scratch2).readCov L (Rect.unit (s := S256x1024) ![0, 0] ![256, 1024] inb_S256x1024_S256x1024_0_0).toLoadRect) ?_
  refine congrArg₂ List.cons (Eq.trans (conv_reset (k0_pay6 (iblk m c 0 t) (iblk m c 1 t) (iblk m c 2 t)) (iblk m c 9 t)) ?_) ?_
  · rfl
  · rfl

/-- The tile a point writes, at a later batch's start. -/
theorem tile_C (c : Dev nD) (t : Fin cfg0.N) (h0 : t.val % 16 = 0) (h1 : ¬t.val % 64 = 0) :
    (outsAt0 m c t.val t.isLt).1 = (insA m c t).tile := by
  rw [outsAt0_C m c t h0 h1]
  frame_open
  simp (disch := decide) only [↓ View.readCov_skip, ↓ View.readCov_cons_toLoadRect, ↓ View.readCov_fill]
  frame_out
  simp only [next_0_0, next_0_1, next_0_2, next_0_3, mix_0_0, mix_0_1, mix_0_2, mix_0_3, mix_1_0, mix_1_1, mix_1_2, mix_1_3,
    ldH_0, ldH_1, ldH_2, ldH_3, ldC_0, ldC_1, ldC_2, ldC_3, ldW_0, ldW_1, ldW_2, ldW_3]
  simp only [Ins.tile, Ins.mixList, Ins.conv, Ins.cu, Ins.mix, Ins.s1, Ins.next, insA, insAt, Ins.P, Ins.C, Ins.N]
  refine congrArg₂ (fun a b => k0_pay115 (F := Ideal) (k0_pay5 (iblk m c 0 t)) a b) ?_ rfl
  refine congrArg (fun L => (View.whole cc0_scratch2).readCov L (Rect.unit (s := S256x1024) ![0, 0] ![256, 1024] inb_S256x1024_S256x1024_0_0).toLoadRect) ?_
  refine congrArg₂ List.cons (Eq.trans (conv_reset (k0_pay6 (iblk m c 0 t) (iblk m c 1 t) (iblk m c 2 t)) (iblk m c 9 t)) ?_) ?_
  · rfl
  · rfl

/-- What point `t` reads. -/
def insOf (c : Dev nD) (t : Fin cfg0.N) : Ins := if t.val % 16 = 0 then insA m c t else insB m c t

/-- The state a point leaves, at every point. -/
theorem state_eq (c : Dev nD) (t : Fin cfg0.N) : (outsAt0 m c t.val t.isLt).2.2.2.2.1 = (insOf m c t).st2 := by
  unfold insOf
  by_cases h0 : t.val % 16 = 0
  · rw [if_pos h0]
    by_cases h1 : t.val % 64 = 0
    · exact state_A m c t h0 h1
    · exact state_C m c t h0 h1
  · rw [if_neg h0]
    exact state_B m c t h0 (by omega)

/-- The kept rows a point leaves, at every point. -/
theorem tail_eq (c : Dev nD) (t : Fin cfg0.N) : (outsAt0 m c t.val t.isLt).2.2.2.2.2.1 = (insOf m c t).tail := by
  unfold insOf
  by_cases h0 : t.val % 16 = 0
  · rw [if_pos h0]
    by_cases h1 : t.val % 64 = 0
    · exact tail_A m c t h0 h1
    · exact tail_C m c t h0 h1
  · rw [if_neg h0]
    exact tail_B m c t h0 (by omega)

/-- The tile a point writes, at every point. -/
theorem tile_eq (c : Dev nD) (t : Fin cfg0.N) : (outsAt0 m c t.val t.isLt).1 = (insOf m c t).tile := by
  unfold insOf
  by_cases h0 : t.val % 16 = 0
  · rw [if_pos h0]
    by_cases h1 : t.val % 64 = 0
    · exact tile_A m c t h0 h1
    · exact tile_C m c t h0 h1
  · rw [if_neg h0]
    exact tile_B m c t h0 (by omega)

end Cert.Mixer
-- ==== Proof.Mixer.Tile.lean ====
/-
  A point's tile, entry by entry.
-/
module

public import proofs.«01_k».proof.Proof.Mixer.Open

@[expose] public section

set_option maxRecDepth 16384

noncomputable section

namespace Cert.Mixer

open Cert.KernelIdeal Cert.KernelIdeal.Gen
open Idealize.ShloMosaic Idealize.ShloMosaic.Pipeline Idealize.ShloMosaic.TcCoe

namespace Ins
variable (I : Ins)

/-- Head `h`'s state before chunk `j` of the tile. -/
def sAt (j : Fin 2) (h : Fin 4) : Vec Ideal S1x128x128 .f32 :=
  match j with
  | 0 => ldH I.st h
  | 1 => I.s1 h

/-- An entry of a head's columns of the mix. -/
def mixG (j : Fin 2) (h : Fin 4) (i d : Fin 128) : EReal := I.mix j h (I.sAt j h) (ix2 i d)

/-- An entry of the mix. -/
def mixF : Vec Ideal S256x1024 .bf16 := fun y =>
  if hk : (y (1 : Fin 2)).val < 512 then
    I.mixG ⟨(y (0 : Fin 2)).val / 128, by have h : (y (0 : Fin 2)).val < 256 := (y (0 : Fin 2)).isLt; omega⟩
      ⟨(y (1 : Fin 2)).val / 128, by omega⟩ ⟨(y (0 : Fin 2)).val % 128, by omega⟩ ⟨(y (1 : Fin 2)).val % 128, by omega⟩
  else I.conv (ix2 (y (0 : Fin 2)) ⟨(y (1 : Fin 2)).val - 512, by have h : (y (1 : Fin 2)).val < 1024 := (y (1 : Fin 2)).isLt; omega⟩)

/-- The mixed tile's columns of a head. -/
theorem mixF_head (j : Fin 2) (h : Fin 4) (i d : Fin 128) :
    I.mixF (ix2 (row j i) ⟨128 * h.val + d.val, by omega⟩) = I.mixG j h i d := by
  refine (dif_pos (show 128 * h.val + d.val < 512 by omega)).trans ?_
  have e1 : (⟨(128 * j.val + i.val) / 128, by omega⟩ : Fin 2) = j := Fin.ext (by show (128 * j.val + i.val) / 128 = j.val; omega)
  have e2 : (⟨(128 * h.val + d.val) / 128, by omega⟩ : Fin 4) = h := Fin.ext (by show (128 * h.val + d.val) / 128 = h.val; omega)
  have e3 : (⟨(128 * j.val + i.val) % 128, by omega⟩ : Fin 128) = i := Fin.ext (by show (128 * j.val + i.val) % 128 = i.val; omega)
  have e4 : (⟨(128 * h.val + d.val) % 128, by omega⟩ : Fin 128) = d := Fin.ext (by show (128 * h.val + d.val) % 128 = d.val; omega)
  show I.mixG ⟨(128 * j.val + i.val) / 128, _⟩ ⟨(128 * h.val + d.val) / 128, _⟩ ⟨(128 * j.val + i.val) % 128, _⟩ ⟨(128 * h.val + d.val) % 128, _⟩ = _
  rw [e1, e2, e3, e4]

/-- The mixed tile's columns of the convolution. -/
theorem mixF_conv (r : Fin 256) (d : Fin 512) : I.mixF (ix2 r ⟨512 + d.val, by omega⟩) = I.conv (ix2 r d) := by
  refine (dif_neg (show ¬512 + d.val < 512 by omega)).trans ?_
  exact congrArg (fun k => I.conv (ix2 r k)) (Fin.ext (by show 512 + d.val - 512 = d.val; omega))

/-- A head's stored rows are the mixed tile's in their rectangle. -/
theorem piece_head (j : Fin 2) (h : Fin 4) (inb) (x : (Rect.unit (s := S256x1024) ![128 * j.val, 128 * h.val] ![128, 128] inb).shape.Idx) :
    I.mix j h (I.sAt j h) x = I.mixF ((Rect.unit (s := S256x1024) ![128 * j.val, 128 * h.val] ![128, 128] inb).emb x) := by
  have e : (Rect.unit (s := S256x1024) ![128 * j.val, 128 * h.val] ![128, 128] inb).emb x
      = ix2 (row j (x (0 : Fin 2))) ⟨128 * h.val + (x (1 : Fin 2)).val, by have h1 : (x (1 : Fin 2)).val < 128 := (x (1 : Fin 2)).isLt; omega⟩ := by
    funext a
    match a with
    | ⟨0, _⟩ => exact Fin.ext (by show 128 * j.val + 1 * (x (0 : Fin 2)).val = 128 * j.val + (x (0 : Fin 2)).val; omega)
    | ⟨1, _⟩ => exact Fin.ext (by show 128 * h.val + 1 * (x (1 : Fin 2)).val = 128 * h.val + (x (1 : Fin 2)).val; omega)
  rw [e]
  refine Eq.trans ?_ (I.mixF_head j h (x (0 : Fin 2)) (x (1 : Fin 2))).symm
  unfold mixG
  refine congrArg (I.mix j h (I.sAt j h)) (funext fun a => ?_)
  match a with
  | ⟨0, _⟩ => rfl
  | ⟨1, _⟩ => rfl

/-- The convolution's stored rows are the mixed tile's in their rectangle. -/
theorem piece_conv (x : (Rect.unit (s := S256x1024) ![0, 512] ![256, 512] inb_S256x1024_S256x512_0_512).shape.Idx) :
    I.conv x = I.mixF ((Rect.unit (s := S256x1024) ![0, 512] ![256, 512] inb_S256x1024_S256x512_0_512).emb x) := by
  have e : (Rect.unit (s := S256x1024) ![0, 512] ![256, 512] inb_S256x1024_S256x512_0_512).emb x
      = ix2 (x (0 : Fin 2)) ⟨512 + (x (1 : Fin 2)).val, by have h1 : (x (1 : Fin 2)).val < 512 := (x (1 : Fin 2)).isLt; omega⟩ := by
    funext a
    match a with
    | ⟨0, _⟩ => exact Fin.ext (by show 0 + 1 * (x (0 : Fin 2)).val = (x (0 : Fin 2)).val; omega)
    | ⟨1, _⟩ => exact Fin.ext (by show 512 + 1 * (x (1 : Fin 2)).val = 512 + (x (1 : Fin 2)).val; omega)
  rw [e]
  refine Eq.trans ?_ (I.mixF_conv (x (0 : Fin 2)) (x (1 : Fin 2))).symm
  refine congrArg I.conv (funext fun a => ?_)
  match a with
  | ⟨0, _⟩ => rfl
  | ⟨1, _⟩ => rfl

/-- Which places lie in a head's rectangle. -/
theorem mem_head (j : Fin 2) (h : Fin 4) (inb) (r : Fin 256) (k : Fin 1024) (hr : r.val / 128 = j.val) (hk : k.val / 128 = h.val) :
    ix2 r k ∈ (Rect.unit (s := S256x1024) ![128 * j.val, 128 * h.val] ![128, 128] inb).set :=
  Rect.mem_set_unit.mpr fun a => by
    match a with
    | ⟨0, _⟩ => exact ⟨by show 128 * j.val ≤ r.val; omega, by show r.val < 128 * j.val + 128; omega⟩
    | ⟨1, _⟩ => exact ⟨by show 128 * h.val ≤ k.val; omega, by show k.val < 128 * h.val + 128; omega⟩

/-- The stores to the mix, read back. -/
theorem mix_read (r : Fin 256) (k : Fin 1024) : View.canon I.mixList (ix2 r k) = I.mixF (ix2 r k) := by
  refine (congrArg (fun L => View.canon L (ix2 r k)) (List.append_nil I.mixList).symm).trans ?_
  refine View.canon_append_of_piecesOf I.mixF [] I.mixList
    ⟨I.piece_conv, I.piece_head 1 3 inb_S256x1024_S128x128_128_384, I.piece_head 1 2 inb_S256x1024_S128x128_128_256,
     I.piece_head 1 1 inb_S256x1024_S128x128_128_128, I.piece_head 1 0 inb_S256x1024_S128x128_128_0,
     I.piece_head 0 3 inb_S256x1024_S128x128_0_384, I.piece_head 0 2 inb_S256x1024_S128x128_0_256,
     I.piece_head 0 1 inb_S256x1024_S128x128_0_128, I.piece_head 0 0 inb_S256x1024_S128x128_0_0, trivial⟩ (ix2 r k) ?_
  by_cases hk : k.val < 512
  · have h2 : r.val / 128 = 0 ∨ r.val / 128 = 1 := by omega
    have h4 : k.val / 128 = 0 ∨ k.val / 128 = 1 ∨ k.val / 128 = 2 ∨ k.val / 128 = 3 := by omega
    rcases h2 with hr | hr <;> rcases h4 with hc | hc | hc | hc
    · exact ⟨_, List.mem_of_getElem? (i := 8) rfl, mem_head 0 0 inb_S256x1024_S128x128_0_0 r k hr hc⟩
    · exact ⟨_, List.mem_of_getElem? (i := 7) rfl, mem_head 0 1 inb_S256x1024_S128x128_0_128 r k hr hc⟩
    · exact ⟨_, List.mem_of_getElem? (i := 6) rfl, mem_head 0 2 inb_S256x1024_S128x128_0_256 r k hr hc⟩
    · exact ⟨_, List.mem_of_getElem? (i := 5) rfl, mem_head 0 3 inb_S256x1024_S128x128_0_384 r k hr hc⟩
    · exact ⟨_, List.mem_of_getElem? (i := 4) rfl, mem_head 1 0 inb_S256x1024_S128x128_128_0 r k hr hc⟩
    · exact ⟨_, List.mem_of_getElem? (i := 3) rfl, mem_head 1 1 inb_S256x1024_S128x128_128_128 r k hr hc⟩
    · exact ⟨_, List.mem_of_getElem? (i := 2) rfl, mem_head 1 2 inb_S256x1024_S128x128_128_256 r k hr hc⟩
    · exact ⟨_, List.mem_of_getElem? (i := 1) rfl, mem_head 1 3 inb_S256x1024_S128x128_128_384 r k hr hc⟩
  · have hm : ix2 r k ∈ (Rect.unit (s := S256x1024) ![0, 512] ![256, 512] inb_S256x1024_S256x512_0_512).set := Rect.mem_set_unit.mpr fun a => by
      match a with
      | ⟨0, _⟩ => exact ⟨Nat.zero_le _, by show r.val < 0 + 256; omega⟩
      | ⟨1, _⟩ => exact ⟨by show 512 ≤ k.val; omega, by show k.val < 512 + 512; omega⟩
    exact ⟨_, List.mem_of_getElem? (i := 0) rfl, hm⟩

/-- What the output projection loads is the mixed tile. -/
theorem mix_load (r : Fin 256) (k : Fin 1024) :
    (show Vec Ideal S256x1024 .bf16 from
      (View.whole cc0_scratch2).readCov I.mixList (Rect.unit (s := S256x1024) ![0, 0] ![256, 1024] inb_S256x1024_S256x1024_0_0).toLoadRect) (ix2 r k)
      = I.mixF (ix2 r k) := by
  have e : (Rect.unit (s := S256x1024) ![0, 0] ![256, 1024] inb_S256x1024_S256x1024_0_0).toLoadRect.idx (ix2 r k) = ix2 r k := by
    funext a
    match a with
    | ⟨0, _⟩ => exact Fin.ext (by show 0 + 1 * r.val = r.val; omega)
    | ⟨1, _⟩ => exact Fin.ext (by show 0 + 1 * k.val = k.val; omega)
  refine (congrFun (View.readCov_eq_canon' (View.whole cc0_scratch2) I.mixList _) _).trans ?_
  exact (congrArg (View.canon I.mixList) e).trans (I.mix_read r k)

/-- An entry of the tile. -/
theorem tile_apply (r : Fin 256) (d : Fin 1024) :
    I.tile (ix3 0 r d) = I.x (ix3 0 r d) + ∑ k : Fin 1024, I.mixF (ix2 r k) * I.wo (ix2 k d) := by
  unfold tile
  refine (sum_apply I.x _ I.wo r d).trans ?_
  exact congrArg (I.x (ix3 0 r d) + ·) (Finset.sum_congr rfl fun k _ => congrArg (· * I.wo (ix2 k d)) (I.mix_load r k))

/-- A row of the convolution's weights. -/
theorem ld_cw (j : Fin 3) (inb) (d : Fin 512) : (show Vec Ideal S1x512 .f32 from View.ld I.cw (Rect.unit ![j.val, 0] ![1, 512] inb)) (ix2 0 d) = I.cw (ix2 j d) := by
  refine congrArg I.cw (funext fun a => ?_)
  match a with
  | ⟨0, _⟩ => exact Fin.ext (by show j.val + 1 * 0 = j.val; omega)
  | ⟨1, _⟩ => exact Fin.ext (by show 0 + 1 * d.val = d.val; omega)

/-- The buffer read from a row on. -/
theorem ld_carr (o : ℕ) (ho : o < 9) (inb) (X : Vec Ideal S264x512 .f32) (r : Fin 256) (d : Fin 512) :
    (show Vec Ideal S256x512 .f32 from View.ld X (Rect.unit ![o, 0] ![256, 512] inb)) (ix2 r d) = X (ix2 ⟨o + r.val, by omega⟩ d) := by
  refine congrArg X (funext fun a => ?_)
  match a with
  | ⟨0, _⟩ => exact Fin.ext (by show o + 1 * r.val = o + r.val; omega)
  | ⟨1, _⟩ => exact Fin.ext (by show 0 + 1 * d.val = d.val; omega)

/-- An entry of the convolution. -/
theorem conv_entry (r : Fin 256) (d : Fin 512) :
    I.conv (ix2 r d) = I.P (ix2 r ⟨2048 + d.val, by omega⟩)
      * (I.cw (ix2 2 d) * I.cu (ix2 r d) + I.cw (ix2 1 d) * carr I.old I.cu (ix2 ⟨7 + r.val, by omega⟩ d)
        + I.cw (ix2 0 d) * carr I.old I.cu (ix2 ⟨6 + r.val, by omega⟩ d)) := by
  unfold conv
  refine (conv_apply I.P _ _ _ I.cu _ _ r d).trans ?_
  exact congrArg (I.P (ix2 r ⟨2048 + d.val, by omega⟩) * ·) (congrArg₂ (· + ·) (congrArg₂ (· + ·)
    (congrArg (· * I.cu (ix2 r d)) (I.ld_cw 2 inb_S3x512_S1x512_2_0 d))
    (congrArg₂ (· * ·) (I.ld_cw 1 inb_S3x512_S1x512_1_0 d) (ld_carr 7 (by omega) inb_S264x512_S256x512_7_0 (carr I.old I.cu) r d)))
    (congrArg₂ (· * ·) (I.ld_cw 0 inb_S3x512_S1x512_0_0 d) (ld_carr 6 (by omega) inb_S264x512_S256x512_6_0 (carr I.old I.cu) r d)))

end Ins

end Cert.Mixer
-- ==== Proof.Mixer.Spec.lean ====
/-
  The layer's residual stream after the mixer, entry by entry, of its arrays.
-/
module

public import proofs.«01_k».proof.Proof.Mixer.Slices

@[expose] public section

set_option maxRecDepth 16384

noncomputable section

namespace Cert.Mixer

open Idealize.ShloMosaic

/-- The layer's arrays. -/
structure Args where
  x : Fin 4 → Fin 4096 → Fin 1024 → EReal
  n1 : Fin 1024 → EReal
  wi : Fin 1024 → Fin 3584 → EReal
  gw : Fin 512 → EReal
  cw : Fin 3 → Fin 512 → EReal
  wo : Fin 1024 → Fin 1024 → EReal

/-- The token at a place of a chunk. -/
def tok (n : Fin 32) (i : Fin 128) : Fin 4096 := ⟨n.val * 128 + i.val, by omega⟩

/-- A number as the arrays hold it. -/
abbrev num (n : ℕ) : EReal := FloatOps.sitofp (F := Ideal) .f32 (BitVec.ofNat 32 n)

/-- A position's angle. -/
def ang (s : Fin 4096) (j : Fin 64) : EReal :=
  num s.val * Ideal.pow (Ideal.ofBits .f32 0x461C4000#32) (Ideal.div (-num j.val) (Ideal.ofBits .f32 0x42800000#32))

/-- The logarithm of a head's decay per token. -/
def lg (h : Fin 4) : EReal :=
  Ideal.log1p (-Ideal.pow (Ideal.ofBits .f32 0x40000000#32) (Ideal.ofBits .f32 0xC0A00000#32 - num h.val))

/-- The scale of the queries. -/
def scale : EReal := Ideal.ofBits .f32 0x3DB504F3#32

/-- A key's decay to the end of its chunk. -/
def kdec (h : Fin 4) (i : Fin 128) : EReal := Ideal.exp (lg h * (Ideal.ofBits .f32 0x42FE0000#32 - num i.val))
/-- A query's decay from the start of its chunk. -/
def qdec (h : Fin 4) (i : Fin 128) : EReal := Ideal.exp (lg h * (num i.val + 1))

namespace Args

variable (A : Args)

/-- The projection. -/
def proj (b : Fin 4) (s : Fin 4096) (c : Fin 3584) : EReal := ∑ k : Fin 1024, rmsE (A.x b s) A.n1 k * A.wi k c

/-- A part of the projection turned by its position's angles. -/
def rot (n : Fin 7) (b : Fin 4) (h : Fin 4) (s : Fin 4096) (d : Fin 128) : EReal :=
  if hd : d.val < 64 then
    A.proj b s (pcol n h d) * Ideal.cos (ang s ⟨d.val, hd⟩) - A.proj b s (pcol n h ⟨d.val + 64, by omega⟩) * Ideal.sin (ang s ⟨d.val, hd⟩)
  else
    A.proj b s (pcol n h d) * Ideal.cos (ang s ⟨d.val - 64, by omega⟩)
      + A.proj b s (pcol n h ⟨d.val - 64, by omega⟩) * Ideal.sin (ang s ⟨d.val - 64, by omega⟩)

/-- A pair of a chunk's places: the key's decay at the query, none where the query is earlier. -/
def _root_.Cert.Mixer.dmat (h : Fin 4) (i j : Fin 128) : EReal :=
  if 0 ≤ num i.val - num j.val then Ideal.exp (lg h * if 0 ≤ num i.val - num j.val then num i.val - num j.val else 0) else 0

/-- A pair of chunks: what of the earlier one's sum is left at the start of the later one. -/
def _root_.Cert.Mixer.between (h : Fin 4) (n m : Fin 32) : EReal :=
  if 0 ≤ num n.val - 1 - num m.val then
    Ideal.exp (lg h * Ideal.ofBits .f32 0x43000000#32 * if 0 ≤ num n.val - 1 - num m.val then num n.val - 1 - num m.val else 0)
  else 0

/-- A chunk's sum of keys and values, at its end. -/
def kv (b h : Fin 4) (n : Fin 32) (d e : Fin 128) : EReal :=
  ∑ i : Fin 128, A.rot 1 b h (tok n i) d * kdec h i * A.proj b (tok n i) (pcol 2 h e)

/-- The chunks before a chunk, as they stand at its start. -/
def prev (b h : Fin 4) (n : Fin 32) (d e : Fin 128) : EReal := ∑ m : Fin 32, A.kv b h m d e * between h n m

/-- The retention of a head, at a place of a chunk. -/
def ret (b h : Fin 4) (n : Fin 32) (i e : Fin 128) : EReal :=
  (∑ j : Fin 128, A.proj b (tok n j) (pcol 2 h e)
      * ((∑ d : Fin 128, A.rot 0 b h (tok n i) d * scale * A.rot 1 b h (tok n j) d) * dmat h i j))
    + (∑ d : Fin 128, A.prev b h n d e * (A.rot 0 b h (tok n i) d * scale)) * qdec h i

/-- The gate times the input of the convolution. -/
def cu (b : Fin 4) (s : Fin 4096) (d : Fin 512) : EReal :=
  A.proj b s ⟨2560 + d.val, by omega⟩ * A.proj b s ⟨3072 + d.val, by omega⟩

/-- The same, a number of tokens earlier; none before the first. -/
def cuBack (b : Fin 4) (s : Fin 4096) (n : ℕ) (d : Fin 512) : EReal :=
  if h : n ≤ s.val then A.cu b ⟨s.val - n, by omega⟩ d else 0

/-- The convolution, gated. -/
def conv (b : Fin 4) (s : Fin 4096) (d : Fin 512) : EReal :=
  A.proj b s ⟨2048 + d.val, by omega⟩
    * (A.cuBack b s 2 d * A.cw 0 d + A.cuBack b s 1 d * A.cw 1 d + A.cu b s d * A.cw 2 d)

/-- A head's output: normalised, scaled, gated. -/
def head (b h : Fin 4) (n : Fin 32) (i e : Fin 128) : EReal :=
  gateE (A.proj b (tok n i) (pcol 3 h e)) * (normE (A.ret b h n i) e * A.gw (col h e))

/-- What goes into the output projection: the heads' outputs, then the convolution. -/
def mixed (b : Fin 4) (n : Fin 32) (i : Fin 128) (k : Fin 1024) : EReal :=
  if hk : k.val < 512 then A.head b ⟨k.val / 128, by omega⟩ n i ⟨k.val % 128, by omega⟩
  else A.conv b (tok n i) ⟨k.val - 512, by omega⟩

/-- The residual stream after the mixer. -/
def out (b : Fin 4) (n : Fin 32) (i : Fin 128) (d : Fin 1024) : EReal :=
  A.x b (tok n i) d + ∑ k : Fin 1024, A.mixed b n i k * A.wo k d

end Args

end Cert.Mixer
-- ==== Proof.Mixer.Numbers.lean ====
/-
  The decays as real numbers.
-/
module

public import proofs.«01_k».proof.Proof.Mixer.Spec

@[expose] public section

set_option maxRecDepth 16384

noncomputable section

namespace Cert.Mixer

open Idealize.ShloMosaic

/-- A head's decay per token. -/
def gam (h : Fin 4) : ℝ := 1 - (1 / 2) ^ (5 + h.val)

/-- A head's decay is positive. -/
theorem gam_pos (h : Fin 4) : 0 < gam h := by
  unfold gam
  have : ((1 : ℝ) / 2) ^ (5 + h.val) ≤ (1 / 2) ^ 5 := pow_le_pow_of_le_one (by norm_num) (by norm_num) (by omega)
  have e : ((1 : ℝ) / 2) ^ 5 = 1 / 32 := by norm_num
  linarith

/-- A small natural number, converted to a float, is that number. -/
theorem num_real (n : ℕ) (hn : n < 2 ^ 31) : num n = ((n : ℝ) : EReal) := by
  have e : (BitVec.ofNat 32 n).toInt = (n : ℤ) := by
    rw [BitVec.toInt_eq_toNat_of_lt] <;> simp only [BitVec.toNat_ofNat] <;> omega
  show (((BitVec.ofNat 32 n).toInt : ℝ) : EReal) = _
  rw [e]
  simp

/-- The float 2. -/
theorem c2 : Ideal.ofBits .f32 0x40000000#32 = ((2 : ℝ) : EReal) := by
  simp [Ideal.ofBits, Ideal.ieee, -EReal.coe_mul]
  try norm_num

/-- The float -5. -/
theorem c5 : Ideal.ofBits .f32 0xC0A00000#32 = ((-5 : ℝ) : EReal) := by
  simp [Ideal.ofBits, Ideal.ieee, -EReal.coe_mul]
  try norm_num

/-- The float 128. -/
theorem c128 : Ideal.ofBits .f32 0x43000000#32 = ((128 : ℝ) : EReal) := by
  simp [Ideal.ofBits, Ideal.ieee, -EReal.coe_mul]
  try norm_num

/-- The scale is a nonnegative real number. -/
theorem scale_nonneg : 0 ≤ scale ∧ scale ≠ ⊤ := by
  have e : ∃ r : ℝ, 0 ≤ r ∧ scale = (r : EReal) := by
    refine ⟨11863283 / 134217728, by norm_num, ?_⟩
    unfold scale
    simp [Ideal.ofBits, Ideal.ieee, -EReal.coe_mul]
    try norm_num
  obtain ⟨r, hr, e⟩ := e
  rw [e]
  exact ⟨EReal.coe_nonneg.mpr hr, EReal.coe_ne_top r⟩

/-- The log of a head's decay, as the layer computes it, is the real logarithm. -/
theorem lg_real (h : Fin 4) : lg h = ((Real.log (gam h) : ℝ) : EReal) := by
  unfold lg
  rw [num_real h.val (by omega), c2, c5, ← EReal.coe_sub]
  have p : Ideal.pow ((2 : ℝ) : EReal) (((-5 - (h.val : ℝ)) : ℝ) : EReal) = (((1 / 2 : ℝ) ^ (5 + h.val) : ℝ) : EReal) := by
    have : (2 : ℝ) ^ (-5 - (h.val : ℝ)) = (1 / 2 : ℝ) ^ (5 + h.val) := by
      rw [show (-5 - (h.val : ℝ)) = -((5 + h.val : ℕ) : ℝ) by push_cast; ring, Real.rpow_neg (by norm_num), Real.rpow_natCast]
      rw [one_div, inv_pow]
    rw [← this]
    rfl
  rw [p, ← EReal.coe_neg]
  unfold Ideal.log1p
  rw [← EReal.coe_one, ← EReal.coe_add]
  have e : (1 : ℝ) + -(1 / 2) ^ (5 + h.val) = gam h := by unfold gam; ring
  rw [e]
  exact if_neg (not_le.mpr (gam_pos h))

/-- The decay over a chunk is the 128th power of a head's decay. -/
theorem dec_real (h : Fin 4) : dec h = ((gam h ^ 128 : ℝ) : EReal) := by
  match h with
  | 0 =>
    refine (IdealRules.named_const.ideal_named_scalar _ _ _ _ rfl).trans ?_
    unfold gam
    norm_num
  | 1 =>
    refine (IdealRules.named_const.ideal_named_scalar _ _ _ _ rfl).trans ?_
    unfold gam
    norm_num
  | 2 =>
    refine (IdealRules.named_const.ideal_named_scalar _ _ _ _ rfl).trans ?_
    unfold gam
    norm_num
  | 3 =>
    refine (IdealRules.named_const.ideal_named_scalar _ _ _ _ rfl).trans ?_
    unfold gam
    norm_num

/-- The query decays are nonnegative real numbers. -/
theorem qdec_nonneg (h : Fin 4) (i : Fin 128) : 0 ≤ qdec h i ∧ qdec h i ≠ ⊤ := by
  unfold qdec
  rw [lg_real, num_real i.val (by omega), ← EReal.coe_one, ← EReal.coe_add, ← EReal.coe_mul]
  exact ⟨EReal.coe_nonneg.mpr (Real.exp_pos _).le, EReal.coe_ne_top _⟩

/-- The decay over a chunk is a nonnegative real number. -/
theorem dec_nonneg (h : Fin 4) : 0 ≤ dec h ∧ dec h ≠ ⊤ := by
  rw [dec_real]
  exact ⟨EReal.coe_nonneg.mpr (pow_nonneg (gam_pos h).le _), EReal.coe_ne_top _⟩

/-- What of a chunk's sum is left at a later chunk's start. -/
theorem between_eq (h : Fin 4) (n m : Fin 32) : between h n m = if m.val < n.val then dec h ^ (n.val - 1 - m.val) else 0 := by
  have e : num n.val - 1 - num m.val = (((n.val : ℝ) - 1 - m.val : ℝ) : EReal) := by
    rw [num_real n.val (by omega), num_real m.val (by omega), ← EReal.coe_one, ← EReal.coe_sub, ← EReal.coe_sub]
  unfold between
  rw [e]
  by_cases hm : m.val < n.val
  · have hk : ((n.val : ℝ) - 1 - m.val) = ((n.val - 1 - m.val : ℕ) : ℝ) := by
      rw [Nat.cast_sub (by omega), Nat.cast_sub (by omega)]
      simp
    have h0 : (0 : EReal) ≤ (((n.val : ℝ) - 1 - m.val : ℝ) : EReal) := by
      rw [hk]
      exact EReal.coe_nonneg.mpr (Nat.cast_nonneg _)
    rw [if_pos h0, if_pos h0, if_pos hm, hk, lg_real, c128, dec_real, ← EReal.coe_mul, ← EReal.coe_mul, ← EReal.coe_pow]
    refine congrArg (fun r : ℝ => (r : EReal)) ?_
    show Real.exp _ = _
    rw [mul_comm, Real.exp_nat_mul, mul_comm, show (128 : ℝ) = ((128 : ℕ) : ℝ) by norm_num, Real.exp_nat_mul, Real.exp_log (gam_pos h)]
  · have h0 : ¬(0 : EReal) ≤ (((n.val : ℝ) - 1 - m.val : ℝ) : EReal) := by
      rw [EReal.coe_nonneg]
      have : (n.val : ℝ) ≤ m.val := Nat.cast_le.mpr (by omega)
      intro hh
      linarith
    rw [if_neg h0, if_neg hm]

end Cert.Mixer
-- ==== Proof.Mixer.Hosts.lean ====
/-
  The arrays the host passes to the kernel, entry by entry.
-/
module

public import proofs.«01_k».proof.Proof.Gen.KernelIdeal.Frame
public import proofs.«01_k».proof.Proof.Mixer.Numbers
public import Idealize.ShloMosaic.Lib.StableHlo.ReadAt
public import Idealize.ShloMosaic.Lib.Pointwise

@[expose] public section

set_option maxRecDepth 16384

noncomputable section

namespace Cert.Mixer

open Cert.KernelIdeal Cert.KernelIdeal.Gen
open Idealize.ShloMosaic Idealize.ShloMosaic.Pipeline Idealize.ShloMosaic.TcCoe

variable (m : (ℓ : Loc nD τ sig) → Buf (Elt Ideal) ℓ) (c : Dev nD)

/-- An entry of the cosine table as the host code leaves it for the call. -/
theorem host_cos (s : Fin 4096) (d : Fin 128) :
    V m c main_v15 (ix2 s d) = Ideal.cos (ang s ⟨d.val % 64, by omega⟩) := by
  unfold V
  after_reads_at
  show (if h : d.val < 64 then Ideal.cos (ang s ⟨d.val, h⟩) else Ideal.cos (ang s ⟨d.val - 64, by omega⟩)) = _
  by_cases h : d.val < 64
  · rw [dif_pos h]
    exact congrArg (fun j => Ideal.cos (ang s j)) (Fin.ext (by show d.val = d.val % 64; omega))
  · rw [dif_neg h]
    exact congrArg (fun j => Ideal.cos (ang s j)) (Fin.ext (by show d.val - 64 = d.val % 64; omega))

/-- An entry of the signed sine table as the host code leaves it for the call. -/
theorem host_sin (s : Fin 4096) (d : Fin 128) :
    V m c main_v17 (ix2 s d) = if d.val < 64 then -Ideal.sin (ang s ⟨d.val % 64, by omega⟩) else Ideal.sin (ang s ⟨d.val % 64, by omega⟩) := by
  unfold V
  after_reads_at
  show (if h : d.val < 64 then -Ideal.sin (ang s ⟨d.val, h⟩) else Ideal.sin (ang s ⟨d.val - 64, by omega⟩)) = _
  by_cases h : d.val < 64
  · rw [dif_pos h, if_pos h]
    exact congrArg (fun j => -Ideal.sin (ang s j)) (Fin.ext (by show d.val = d.val % 64; omega))
  · rw [dif_neg h, if_neg h]
    exact congrArg (fun j => Ideal.sin (ang s j)) (Fin.ext (by show d.val - 64 = d.val % 64; omega))

/-- The float zero of the host code is zero. -/
theorem zero_const : (id (constant (F := Ideal) S_ FTy.f32 0#32) ix0 : EReal) = 0 := by
  simp only [id_eq]
  pointwise

/-- An entry of the decay mask, scaled as the host code leaves it for the call. -/
theorem host_dm (h : Fin 4) (i j : Fin 128) : V m c main_v67 (ix3 h i j) = dmat h i j * scale := by
  unfold V
  after_reads_at
  rw [zero_const]
  rfl

/-- An entry of the key decays, repeated over a head's columns as the host code leaves it for the call. -/
theorem host_kd (i : Fin 128) (h : Fin 4) (d : Fin 128) : V m c main_v60 (ix2 i (col h d)) = kdec h i := by
  have e : (col h d).val / 128 = h.val := by show (128 * h.val + d.val) / 128 = h.val; omega
  unfold V
  after_reads_at
  rw [e]
  rfl

/-- An entry of the query decays, repeated and scaled as the host code leaves it for the call. -/
theorem host_qd (i : Fin 128) (h : Fin 4) (d : Fin 128) : V m c main_v65 (ix2 i (col h d)) = qdec h i * scale := by
  have e : (col h d).val / 128 = h.val := by show (128 * h.val + d.val) / 128 = h.val; omega
  unfold V
  after_reads_at
  rw [e]
  rfl

/-- The kernel's arrays. -/
def args : Args where
  x b s k := m ((c.tc : Thread nD τ).loc main_arg0) (ix3 b s k)
  n1 k := m ((c.tc : Thread nD τ).loc main_arg1) (ix1 k)
  wi k d := m ((c.tc : Thread nD τ).loc main_arg2) (ix2 k d)
  gw d := m ((c.tc : Thread nD τ).loc main_arg3) (ix1 d)
  cw j d := m ((c.tc : Thread nD τ).loc main_arg4) (ix2 j d)
  wo k d := m ((c.tc : Thread nD τ).loc main_arg5) (ix2 k d)

/-- An entry of the first norm's weights as the host code leaves it for the call. -/
theorem host_n1 (u : Fin 1) (k : Fin 1024) : V m c main_v89 (ix2 u k) = (args m c).n1 k := by
  unfold V
  after_reads_at
  rfl

/-- An entry of the input projection as the host code leaves it for the call. -/
theorem host_wi (k : Fin 1024) (d : Fin 3584) : V m c main_v90 (ix2 k d) = (args m c).wi k d := by
  unfold V
  after_reads_at
  rfl

/-- An entry of the group norm's weights as the host code leaves it for the call. -/
theorem host_gw (u : Fin 1) (d : Fin 512) : V m c main_v91 (ix2 u d) = (args m c).gw d := by
  unfold V
  after_reads_at
  rfl

/-- An entry of the output projection as the host code leaves it for the call. -/
theorem host_wo (k d : Fin 1024) : V m c main_v92 (ix2 k d) = (args m c).wo k d := by
  unfold V
  after_reads_at
  rfl

/-- An entry of the residual rows as the host code leaves it for the call. -/
theorem host_x (b : Fin 4) (s : Fin 4096) (k : Fin 1024) : V m c main_arg0 (ix3 b s k) = (args m c).x b s k := by
  rw [V_main_arg0]
  rfl

/-- An entry of the convolution weights as the host code leaves it for the call. -/
theorem host_cw (j : Fin 3) (d : Fin 512) : V m c main_arg4 (ix2 j d) = (args m c).cw j d := by
  rw [V_main_arg4]
  rfl

/-! ## The blocks of a point -/

/-- Which block of x a point reads. -/
theorem at0 : ∀ t : Fin cfg0.N, win0_0.index t 0 = t.val / 16 ∧ win0_0.index t 1 = t.val % 16 ∧ win0_0.index t 2 = 0 := by decide
/-- Which block of the cosines a point reads. -/
theorem at3 : ∀ t : Fin cfg0.N, win0_3.index t 0 = t.val % 16 ∧ win0_3.index t 1 = 0 := by decide
/-- Which block of the sines a point reads. -/
theorem at4 : ∀ t : Fin cfg0.N, win0_4.index t 0 = t.val % 16 ∧ win0_4.index t 1 = 0 := by decide
/-- Which block of the first norm's weights a point reads. -/
theorem at1 : ∀ t : Fin cfg0.N, win0_1.index t 0 = 0 ∧ win0_1.index t 1 = 0 := by decide
/-- Which block of the input projection a point reads. -/
theorem at2 : ∀ t : Fin cfg0.N, win0_2.index t 0 = 0 ∧ win0_2.index t 1 = 0 := by decide
/-- Which block of the decay masks a point reads. -/
theorem at5 : ∀ t : Fin cfg0.N, win0_5.index t 0 = 0 ∧ win0_5.index t 1 = 0 ∧ win0_5.index t 2 = 0 := by decide
/-- Which block of the key decays a point reads. -/
theorem at6 : ∀ t : Fin cfg0.N, win0_6.index t 0 = 0 ∧ win0_6.index t 1 = 0 := by decide
/-- Which block of the query decays a point reads. -/
theorem at7 : ∀ t : Fin cfg0.N, win0_7.index t 0 = 0 ∧ win0_7.index t 1 = 0 := by decide
/-- Which block of the group norm's weights a point reads. -/
theorem at8 : ∀ t : Fin cfg0.N, win0_8.index t 0 = 0 ∧ win0_8.index t 1 = 0 := by decide
/-- Which block of the convolution's weights a point reads. -/
theorem at9 : ∀ t : Fin cfg0.N, win0_9.index t 0 = 0 ∧ win0_9.index t 1 = 0 := by decide
/-- Which block of the output projection a point reads. -/
theorem at10 : ∀ t : Fin cfg0.N, win0_10.index t 0 = 0 ∧ win0_10.index t 1 = 0 := by decide

variable (t : Fin cfg0.N)

/-- The grid has 64 points. -/
theorem lt64 : t.val < 64 := t.isLt

/-- A point's row of the batch. -/
def ptB : Fin 4 := ⟨t.val / 16, by have := lt64 t; omega⟩
/-- A point's tile of that row. -/
def ptC : Fin 16 := ⟨t.val % 16, by omega⟩
/-- A row of a tile. -/
def tokT (q : Fin 16) (r : Fin 256) : Fin 4096 := ⟨q.val * 256 + r.val, by omega⟩

/-- An entry of the residual rows as a grid point's window shows it. -/
theorem blk_x (u : Fin 1) (r : Fin 256) (k : Fin 1024) : iblk m c 0 t (ix3 u r k) = (args m c).x (ptB t) (tokT (ptC t) r) k := by
  refine Eq.trans ?_ (host_x m c (ptB t) (tokT (ptC t) r) k)
  refine congrArg (V m c main_arg0) (funext fun a => Fin.ext ?_)
  match a with
  | ⟨0, _⟩ => exact (win0_0.rect_emb_val t (ix3 u r k) 0).trans (by rw [(at0 t).1]; show t.val / 16 * 1 + u.val = t.val / 16; omega)
  | ⟨1, _⟩ => exact (win0_0.rect_emb_val t (ix3 u r k) 1).trans (by rw [(at0 t).2.1]; rfl)
  | ⟨2, _⟩ => exact (win0_0.rect_emb_val t (ix3 u r k) 2).trans (by rw [(at0 t).2.2]; show 0 * 1024 + k.val = k.val; omega)

/-- An entry of the first norm's weights as a grid point's window shows it. -/
theorem blk_n1 (u : Fin 1) (k : Fin 1024) : iblk m c 1 t (ix2 u k) = (args m c).n1 k := by
  refine Eq.trans ?_ (host_n1 m c u k)
  refine congrArg (V m c main_v89) (funext fun a => Fin.ext ?_)
  match a with
  | ⟨0, _⟩ => exact (win0_1.rect_emb_val t (ix2 u k) 0).trans (by rw [(at1 t).1]; show 0 * 1 + u.val = u.val; omega)
  | ⟨1, _⟩ => exact (win0_1.rect_emb_val t (ix2 u k) 1).trans (by rw [(at1 t).2]; show 0 * 1024 + k.val = k.val; omega)

/-- An entry of the input projection as a grid point's window shows it. -/
theorem blk_wi (k : Fin 1024) (d : Fin 3584) : iblk m c 2 t (ix2 k d) = (args m c).wi k d := by
  refine Eq.trans ?_ (host_wi m c k d)
  refine congrArg (V m c main_v90) (funext fun a => Fin.ext ?_)
  match a with
  | ⟨0, _⟩ => exact (win0_2.rect_emb_val t (ix2 k d) 0).trans (by rw [(at2 t).1]; show 0 * 1024 + k.val = k.val; omega)
  | ⟨1, _⟩ => exact (win0_2.rect_emb_val t (ix2 k d) 1).trans (by rw [(at2 t).2]; show 0 * 3584 + d.val = d.val; omega)

/-- An entry of the cosine table as a grid point's window shows it. -/
theorem blk_cos (r : Fin 256) (d : Fin 128) : iblk m c 3 t (ix2 r d) = Ideal.cos (ang (tokT (ptC t) r) ⟨d.val % 64, by omega⟩) := by
  refine Eq.trans ?_ (host_cos m c (tokT (ptC t) r) d)
  refine congrArg (V m c main_v15) (funext fun a => Fin.ext ?_)
  match a with
  | ⟨0, _⟩ => exact (win0_3.rect_emb_val t (ix2 r d) 0).trans (by rw [(at3 t).1]; rfl)
  | ⟨1, _⟩ => exact (win0_3.rect_emb_val t (ix2 r d) 1).trans (by rw [(at3 t).2]; show 0 * 128 + d.val = d.val; omega)

/-- An entry of the signed sine table as a grid point's window shows it. -/
theorem blk_sin (r : Fin 256) (d : Fin 128) : iblk m c 4 t (ix2 r d)
    = if d.val < 64 then -Ideal.sin (ang (tokT (ptC t) r) ⟨d.val % 64, by omega⟩) else Ideal.sin (ang (tokT (ptC t) r) ⟨d.val % 64, by omega⟩) := by
  refine Eq.trans ?_ (host_sin m c (tokT (ptC t) r) d)
  refine congrArg (V m c main_v17) (funext fun a => Fin.ext ?_)
  match a with
  | ⟨0, _⟩ => exact (win0_4.rect_emb_val t (ix2 r d) 0).trans (by rw [(at4 t).1]; rfl)
  | ⟨1, _⟩ => exact (win0_4.rect_emb_val t (ix2 r d) 1).trans (by rw [(at4 t).2]; show 0 * 128 + d.val = d.val; omega)

/-- An entry of the decay mask, scaled as a grid point's window shows it. -/
theorem blk_dm (h : Fin 4) (i j : Fin 128) : iblk m c 5 t (ix3 h i j) = dmat h i j * scale := by
  refine Eq.trans ?_ (host_dm m c h i j)
  refine congrArg (V m c main_v67) (funext fun a => Fin.ext ?_)
  match a with
  | ⟨0, _⟩ => exact (win0_5.rect_emb_val t (ix3 h i j) 0).trans (by rw [(at5 t).1]; show 0 * 4 + h.val = h.val; omega)
  | ⟨1, _⟩ => exact (win0_5.rect_emb_val t (ix3 h i j) 1).trans (by rw [(at5 t).2.1]; show 0 * 128 + i.val = i.val; omega)
  | ⟨2, _⟩ => exact (win0_5.rect_emb_val t (ix3 h i j) 2).trans (by rw [(at5 t).2.2]; show 0 * 128 + j.val = j.val; omega)

/-- An entry of the key decays, repeated over a head's columns as a grid point's window shows it. -/
theorem blk_kd (i : Fin 128) (h : Fin 4) (d : Fin 128) : iblk m c 6 t (ix2 i (col h d)) = kdec h i := by
  refine Eq.trans ?_ (host_kd m c i h d)
  refine congrArg (V m c main_v60) (funext fun a => Fin.ext ?_)
  match a with
  | ⟨0, _⟩ => exact (win0_6.rect_emb_val t (ix2 i (col h d)) 0).trans (by rw [(at6 t).1]; show 0 * 128 + i.val = i.val; omega)
  | ⟨1, _⟩ => exact (win0_6.rect_emb_val t (ix2 i (col h d)) 1).trans (by rw [(at6 t).2]; show 0 * 512 + (col h d).val = (col h d).val; omega)

/-- An entry of the query decays, repeated and scaled as a grid point's window shows it. -/
theorem blk_qd (i : Fin 128) (h : Fin 4) (d : Fin 128) : iblk m c 7 t (ix2 i (col h d)) = qdec h i * scale := by
  refine Eq.trans ?_ (host_qd m c i h d)
  refine congrArg (V m c main_v65) (funext fun a => Fin.ext ?_)
  match a with
  | ⟨0, _⟩ => exact (win0_7.rect_emb_val t (ix2 i (col h d)) 0).trans (by rw [(at7 t).1]; show 0 * 128 + i.val = i.val; omega)
  | ⟨1, _⟩ => exact (win0_7.rect_emb_val t (ix2 i (col h d)) 1).trans (by rw [(at7 t).2]; show 0 * 512 + (col h d).val = (col h d).val; omega)

/-- An entry of the group norm's weights as a grid point's window shows it. -/
theorem blk_gw (u : Fin 1) (d : Fin 512) : iblk m c 8 t (ix2 u d) = (args m c).gw d := by
  refine Eq.trans ?_ (host_gw m c u d)
  refine congrArg (V m c main_v91) (funext fun a => Fin.ext ?_)
  match a with
  | ⟨0, _⟩ => exact (win0_8.rect_emb_val t (ix2 u d) 0).trans (by rw [(at8 t).1]; show 0 * 1 + u.val = u.val; omega)
  | ⟨1, _⟩ => exact (win0_8.rect_emb_val t (ix2 u d) 1).trans (by rw [(at8 t).2]; show 0 * 512 + d.val = d.val; omega)

/-- An entry of the convolution weights as a grid point's window shows it. -/
theorem blk_cw (j : Fin 3) (d : Fin 512) : iblk m c 9 t (ix2 j d) = (args m c).cw j d := by
  refine Eq.trans ?_ (host_cw m c j d)
  refine congrArg (V m c main_arg4) (funext fun a => Fin.ext ?_)
  match a with
  | ⟨0, _⟩ => exact (win0_9.rect_emb_val t (ix2 j d) 0).trans (by rw [(at9 t).1]; show 0 * 3 + j.val = j.val; omega)
  | ⟨1, _⟩ => exact (win0_9.rect_emb_val t (ix2 j d) 1).trans (by rw [(at9 t).2]; show 0 * 512 + d.val = d.val; omega)

/-- An entry of the output projection as a grid point's window shows it. -/
theorem blk_wo (k d : Fin 1024) : iblk m c 10 t (ix2 k d) = (args m c).wo k d := by
  refine Eq.trans ?_ (host_wo m c k d)
  refine congrArg (V m c main_v92) (funext fun a => Fin.ext ?_)
  match a with
  | ⟨0, _⟩ => exact (win0_10.rect_emb_val t (ix2 k d) 0).trans (by rw [(at10 t).1]; show 0 * 1024 + k.val = k.val; omega)
  | ⟨1, _⟩ => exact (win0_10.rect_emb_val t (ix2 k d) 1).trans (by rw [(at10 t).2]; show 0 * 1024 + d.val = d.val; omega)

end Cert.Mixer
-- ==== Proof.Mixer.Grid.lean ====
/-
  A point's tile as the layer's, and what the points carry.
-/
module

public import proofs.«01_k».proof.Proof.Mixer.Tile
public import proofs.«01_k».proof.Proof.Mixer.Hosts

@[expose] public section

set_option maxRecDepth 16384

noncomputable section

namespace Cert.Mixer

open Cert.KernelIdeal Cert.KernelIdeal.Gen
open Idealize.ShloMosaic Idealize.ShloMosaic.Pipeline Idealize.ShloMosaic.TcCoe

/-- A factor that is a nonnegative real goes into a sum. -/
theorem mul_sum_real {ι : Type} (s : Finset ι) (f : ι → EReal) (x : EReal) (h0 : 0 ≤ x) (h1 : x ≠ ⊤) : x * ∑ i ∈ s, f i = ∑ i ∈ s, x * f i := by
  classical
  induction s using Finset.induction_on with
  | empty => simp
  | insert a s ha ih => rw [Finset.sum_insert ha, Finset.sum_insert ha, EReal.left_distrib_of_nonneg_of_ne_top h0 h1, ih]

namespace Args
variable (A : Args)

/-- The state before a chunk, any number of chunks in. -/
def prevN (b h : Fin 4) (n : ℕ) (d e : Fin 128) : EReal :=
  ∑ m : Fin 32, A.kv b h m d e * if m.val < n then dec h ^ (n - 1 - m.val) else 0

/-- The layer's state before a chunk is the decayed sum counted in numbers. -/
theorem prev_eq (b h : Fin 4) (n : Fin 32) (d e : Fin 128) : A.prev b h n d e = A.prevN b h n.val d e := by
  unfold prev prevN
  simp only [between_eq]

/-- Before the first chunk the state is zero. -/
theorem prevN_zero (b h : Fin 4) (d e : Fin 128) : A.prevN b h 0 d e = 0 := by
  unfold prevN
  exact Finset.sum_eq_zero fun m _ => by rw [if_neg (by omega), mul_zero]

/-- The decayed sum obeys the scan's step: decay the state, add the chunk's product. -/
theorem prevN_succ (b h : Fin 4) (n : Fin 32) (d e : Fin 128) : A.prevN b h (n.val + 1) d e = dec h * A.prevN b h n.val d e + A.kv b h n d e := by
  unfold prevN
  rw [mul_sum_real _ _ _ (dec_nonneg h).1 (dec_nonneg h).2]
  have e1 : A.kv b h n d e = ∑ m : Fin 32, if m = n then A.kv b h m d e else 0 := by
    rw [Finset.sum_ite_eq' Finset.univ n fun m => A.kv b h m d e, if_pos (Finset.mem_univ n)]
  rw [e1, ← Finset.sum_add_distrib]
  refine Finset.sum_congr rfl fun m _ => ?_
  rcases Nat.lt_trichotomy m.val n.val with hm | hm | hm
  · rw [if_pos (by omega), if_pos hm, if_neg (fun hh => by rw [hh] at hm; omega), add_zero,
      show n.val + 1 - 1 - m.val = (n.val - 1 - m.val) + 1 by omega, pow_succ]
    ac_rfl
  · rw [if_pos (by omega), if_neg (by omega), if_pos (Fin.ext hm), mul_zero, mul_zero, zero_add,
      show n.val + 1 - 1 - m.val = 0 by omega, pow_zero, mul_one]
  · rw [if_neg (by omega), if_neg (by omega), if_neg (fun hh => by rw [hh] at hm; omega), mul_zero, mul_zero, add_zero]

/-- Before the first row the convolution reads zero. -/
theorem cuBack_none (b : Fin 4) (s : Fin 4096) (n : ℕ) (d : Fin 512) (h : ¬n ≤ s.val) : A.cuBack b s n d = 0 := dif_neg h

end Args

/-- A chunk of a tile. -/
def chk (q : Fin 16) (j : Fin 2) : Fin 32 := ⟨2 * q.val + j.val, by omega⟩

/-- A tile's row, counted in chunks, is the chunk's token. -/
theorem tokT_row (q : Fin 16) (j : Fin 2) (i : Fin 128) : tokT q (row j i) = tok (chk q j) i :=
  Fin.ext (by show q.val * 256 + (128 * j.val + i.val) = (2 * q.val + j.val) * 128 + i.val; omega)

/-- A point's inputs are the layer's arrays at its row and tile. -/
structure Fits (I : Ins) (A : Args) (b : Fin 4) (q : Fin 16) : Prop where
  x : ∀ u r k, I.x (ix3 u r k) = A.x b (tokT q r) k
  n1 : ∀ u k, I.n1 (ix2 u k) = A.n1 k
  wi : ∀ k d, I.wi (ix2 k d) = A.wi k d
  cs : ∀ (r : Fin 256) (d : Fin 128), I.cs (ix2 r d) = Ideal.cos (ang (tokT q r) ⟨d.val % 64, by omega⟩)
  sn : ∀ (r : Fin 256) (d : Fin 128), I.sn (ix2 r d)
    = if d.val < 64 then -Ideal.sin (ang (tokT q r) ⟨d.val % 64, by omega⟩) else Ideal.sin (ang (tokT q r) ⟨d.val % 64, by omega⟩)
  dm : ∀ h i j, I.dm (ix3 h i j) = dmat h i j * scale
  kd : ∀ i h d, I.kd (ix2 i (col h d)) = kdec h i
  qd : ∀ i h d, I.qd (ix2 i (col h d)) = qdec h i * scale
  gw : ∀ u d, I.gw (ix2 u d) = A.gw d
  cw : ∀ j d, I.cw (ix2 j d) = A.cw j d
  wo : ∀ k d, I.wo (ix2 k d) = A.wo k d

/-- What is carried to a point is the layer's. -/
structure Carries (I : Ins) (A : Args) (b : Fin 4) (q : Fin 16) : Prop where
  st : ∀ h d e, I.st (ix3 h d e) = A.prevN b h (2 * q.val) d e
  old : ∀ (i : Fin 8) d, I.old i d = A.cuBack b (tokT q 0) (8 - i.val) d

/-- The loaded cosines are used as they are. -/
theorem pay7_apply (v : Vec Ideal S256x128 .f32) (y : S256x128.Idx) : k0_pay7 v y = v y := by
  unfold k0_pay7
  pointwise
/-- The loaded sines are used as they are. -/
theorem pay8_apply (v : Vec Ideal S256x128 .f32) (y : S256x128.Idx) : k0_pay8 v y = v y := by
  unfold k0_pay8
  pointwise

section
variable {I : Ins} {A : Args} {b : Fin 4} {q : Fin 16} (F : Fits I A b q)
include F

/-- A tile's projected rows are the layer's. -/
theorem P_eq (r : Fin 256) (d : Fin 3584) : I.P (ix2 r d) = A.proj b (tokT q r) d := by
  unfold Ins.P Args.proj
  rw [proj_apply, show (fun k => I.x (ix3 0 r k)) = A.x b (tokT q r) from funext (F.x 0 r), show (fun k => I.n1 (ix2 0 k)) = A.n1 from funext (F.n1 0)]
  exact Finset.sum_congr rfl fun k _ => by rw [F.wi]

/-- A tile's rotated queries and keys are the layer's. -/
theorem turn_rot (n : Fin 7) (h : Fin 4) (r : Fin 256) (d : Fin 128) : I.turn n h r d = A.rot n b h (tokT q r) d := by
  have eC : I.C (ix2 r d) = Ideal.cos (ang (tokT q r) ⟨d.val % 64, by omega⟩) := by
    unfold Ins.C
    rw [pay7_apply, F.cs]
  have eN : I.N (ix2 r d) = if d.val < 64 then -Ideal.sin (ang (tokT q r) ⟨d.val % 64, by omega⟩) else Ideal.sin (ang (tokT q r) ⟨d.val % 64, by omega⟩) := by
    unfold Ins.N
    rw [pay8_apply, F.sn]
  unfold Ins.turn Args.rot
  rw [P_eq F, P_eq F, eC, eN]
  by_cases hd : d.val < 64
  · have ed : (⟨d.val % 64, by omega⟩ : Fin 64) = ⟨d.val, hd⟩ := Fin.ext (by show d.val % 64 = d.val; omega)
    have et : turned d = ⟨d.val + 64, by omega⟩ := Fin.ext (by simp only [turned]; omega)
    rw [if_pos hd, dif_pos hd, ed, et, mul_neg, sub_eq_add_neg]
  · have ed : (⟨d.val % 64, by omega⟩ : Fin 64) = ⟨d.val - 64, by omega⟩ := Fin.ext (by show d.val % 64 = d.val - 64; omega)
    have et : turned d = ⟨d.val - 64, by omega⟩ := Fin.ext (by simp only [turned]; omega)
    rw [if_neg hd, dif_neg hd, ed, et]

/-- If a head's state comes in right, it leaves as the layer's state one chunk later. -/
theorem next_eq (j : Fin 2) (h : Fin 4) (s : Vec Ideal S1x128x128 .f32) (hs : ∀ d e, s (ix3 0 d e) = A.prevN b h (2 * q.val + j.val) d e)
    (a : Fin 1) (d e : Fin 128) : I.next j h s (ix3 a d e) = A.prevN b h (2 * q.val + j.val + 1) d e := by
  rw [Ins.next_apply, hs]
  refine Eq.trans ?_ (A.prevN_succ b h (chk q j) d e).symm
  refine congrArg (dec h * A.prevN b h (2 * q.val + j.val) d e + ·) ?_
  unfold Args.kv
  exact Finset.sum_congr rfl fun i _ => by rw [turn_rot F, F.kd, P_eq F, tokT_row]

/-- If a head's state comes in right, the head's retention rows are the layer's. -/
theorem out_eq (j : Fin 2) (h : Fin 4) (s : Vec Ideal S1x128x128 .f32) (hs : ∀ d e, s (ix3 0 d e) = A.prevN b h (2 * q.val + j.val) d e)
    (i e : Fin 128) : I.out j h s i e = A.ret b h (chk q j) i e := by
  unfold Ins.out Args.ret
  refine congrArg₂ (· + ·) (Finset.sum_congr rfl fun i' _ => ?_) ?_
  · have e1 : (∑ d : Fin 128, A.rot 0 b h (tok (chk q j) i) d * scale * A.rot 1 b h (tok (chk q j) i') d)
        = scale * ∑ d : Fin 128, A.rot 0 b h (tok (chk q j) i) d * A.rot 1 b h (tok (chk q j) i') d := by
      rw [mul_sum_real _ _ _ scale_nonneg.1 scale_nonneg.2]
      exact Finset.sum_congr rfl fun d _ => by ac_rfl
    rw [e1, F.dm, P_eq F]
    simp only [turn_rot F, tokT_row]
    ac_rfl
  · rw [mul_comm _ (qdec h i), mul_sum_real _ _ _ (qdec_nonneg h i).1 (qdec_nonneg h i).2]
    refine Finset.sum_congr rfl fun d _ => ?_
    rw [turn_rot F, F.qd, hs, tokT_row, A.prev_eq]
    show _ = qdec h i * (A.prevN b h (2 * q.val + j.val) d e * _)
    ac_rfl

/-- A tile's convolution input is the layer's. -/
theorem cu_eq (r : Fin 256) (d : Fin 512) : I.cu (ix2 r d) = A.cu b (tokT q r) d := by
  unfold Ins.cu Args.cu
  rw [cu_apply, P_eq F, P_eq F]

variable (K : Carries I A b q)
include K

/-- The state between a tile's two chunks is the layer's. -/
theorem s1_eq (h : Fin 4) (a : Fin 1) (d e : Fin 128) : I.s1 h (ix3 a d e) = A.prevN b h (2 * q.val + 1) d e :=
  next_eq F 0 h (ldH I.st h) (fun d e => by rw [ldH_apply, K.st]; rfl) a d e

/-- The state after a tile's second chunk is the layer's. -/
theorem s2_eq (h : Fin 4) (a : Fin 1) (d e : Fin 128) : I.s2 h (ix3 a d e) = A.prevN b h (2 * q.val + 2) d e :=
  next_eq F 1 h (I.s1 h) (fun d e => s1_eq F K h 0 d e) a d e

/-- All four heads' states after a tile are the layer's. -/
theorem st2_eq (h : Fin 4) (d e : Fin 128) : I.st2 (ix3 h d e) = A.prevN b h (2 * q.val + 2) d e := s2_eq F K h 0 d e

/-- The gated, normed rows of a head are the layer's. -/
theorem mixG_eq (j : Fin 2) (h : Fin 4) (i e : Fin 128) : I.mixG j h i e = A.head b h (chk q j) i e := by
  have hs : ∀ d e, I.sAt j h (ix3 0 d e) = A.prevN b h (2 * q.val + j.val) d e := fun d e => by
    match j with
    | 0 => exact (ldH_apply I.st h 0 d e).trans (K.st h d e)
    | 1 => exact s1_eq F K h 0 d e
  unfold Ins.mixG Args.head
  rw [Ins.mix_apply, P_eq F, tokT_row, show I.out j h (I.sAt j h) i = A.ret b h (chk q j) i from funext (out_eq F j h _ hs i), F.gw]

/-- A tile's buffer, read n rows back, is the layer's convolution input n tokens back. -/
theorem back_eq (n : ℕ) (hn : n ≤ 8) (r : Fin 256) (d : Fin 512) :
    carr I.old I.cu (ix2 ⟨8 - n + r.val, by omega⟩ d) = A.cuBack b (tokT q r) n d := by
  by_cases hr : r.val < n
  · have e := carr_old I.old I.cu ⟨8 - n + r.val, by omega⟩ d
    refine e.trans ?_
    rw [K.old]
    unfold Args.cuBack
    have h0 : (tokT q 0).val = q.val * 256 := rfl
    have h1 : (tokT q r).val = q.val * 256 + r.val := rfl
    by_cases hq : n ≤ (tokT q r).val
    · rw [dif_pos hq, dif_pos (show 8 - (8 - n + r.val) ≤ (tokT q 0).val by omega)]
      exact congrArg (fun s => A.cu b s d) (Fin.ext (by show (tokT q 0).val - (8 - (8 - n + r.val)) = (tokT q r).val - n; omega))
    · rw [dif_neg hq, dif_neg (show ¬8 - (8 - n + r.val) ≤ (tokT q 0).val by omega)]
  · have e := carr_new I.old I.cu ⟨r.val - n, by omega⟩ d
    have h1 : (tokT q r).val = q.val * 256 + r.val := rfl
    have ei : (⟨8 - n + r.val, by omega⟩ : Fin 264) = ⟨8 + (r.val - n), by omega⟩ := Fin.ext (by show 8 - n + r.val = 8 + (r.val - n); omega)
    rw [ei]
    refine e.trans ?_
    rw [cu_eq F]
    unfold Args.cuBack
    rw [dif_pos (show n ≤ (tokT q r).val by omega)]
    exact congrArg (fun s => A.cu b s d) (Fin.ext (by show q.val * 256 + (r.val - n) = (tokT q r).val - n; omega))

/-- A tile's convolution is the layer's. -/
theorem conv_eq (r : Fin 256) (d : Fin 512) : I.conv (ix2 r d) = A.conv b (tokT q r) d := by
  unfold Args.conv
  have e1 := back_eq F K 1 (by omega) r d
  have e2 := back_eq F K 2 (by omega) r d
  rw [Ins.conv_entry, P_eq F, F.cw, F.cw, F.cw, cu_eq F]
  refine congrArg (A.proj b (tokT q r) ⟨2048 + d.val, by omega⟩ * ·) ?_
  refine (congrArg₂ (fun u v => A.cw 2 d * A.cu b (tokT q r) d + A.cw 1 d * u + A.cw 0 d * v) e1 e2).trans ?_
  show A.cw 2 d * A.cu b (tokT q r) d + A.cw 1 d * A.cuBack b (tokT q r) 1 d + A.cw 0 d * A.cuBack b (tokT q r) 2 d = _
  ac_rfl

/-- A row of the mixed tile is the layer's: heads first, convolution after. -/
theorem mixF_eq (j : Fin 2) (i : Fin 128) (k : Fin 1024) : I.mixF (ix2 (row j i) k) = A.mixed b (chk q j) i k := by
  unfold Args.mixed
  by_cases hk : k.val < 512
  · rw [dif_pos hk]
    have e := I.mixF_head j ⟨k.val / 128, by omega⟩ i ⟨k.val % 128, by omega⟩
    have ek : (⟨128 * (k.val / 128) + k.val % 128, by omega⟩ : Fin 1024) = k := Fin.ext (by show 128 * (k.val / 128) + k.val % 128 = k.val; omega)
    have e' : I.mixF (ix2 (row j i) (⟨128 * (k.val / 128) + k.val % 128, by omega⟩ : Fin 1024)) = I.mixG j ⟨k.val / 128, by omega⟩ i ⟨k.val % 128, by omega⟩ := e
    rw [ek] at e'
    exact e'.trans (mixG_eq F K j _ i _)
  · rw [dif_neg hk]
    have e := I.mixF_conv (row j i) ⟨k.val - 512, by omega⟩
    have ek : (⟨512 + (k.val - 512), by omega⟩ : Fin 1024) = k := Fin.ext (by show 512 + (k.val - 512) = k.val; omega)
    have e' : I.mixF (ix2 (row j i) (⟨512 + (k.val - 512), by omega⟩ : Fin 1024)) = I.conv (ix2 (row j i) ⟨k.val - 512, by omega⟩) := e
    rw [ek] at e'
    rw [e', conv_eq F K, tokT_row]

/-- A point's tile is the layer's. -/
theorem tile_out (j : Fin 2) (i : Fin 128) (d : Fin 1024) : I.tile (ix3 0 (row j i) d) = A.out b (chk q j) i d := by
  unfold Args.out
  rw [Ins.tile_apply, F.x, tokT_row]
  exact congrArg (A.x b (tok (chk q j) i) d + ·) (Finset.sum_congr rfl fun k _ => by rw [mixF_eq F K, F.wo])

end

variable (m : (ℓ : Loc nD τ sig) → Buf (Elt Ideal) ℓ) (c : Dev nD)

/-- A point whose inputs are its windows' blocks fits the layer's arguments. -/
theorem fits_of (t : Fin cfg0.N) (I : Ins) (h0 : I.x = iblk m c 0 t) (h1 : I.n1 = iblk m c 1 t) (h2 : I.wi = iblk m c 2 t)
    (h3 : I.cs = iblk m c 3 t) (h4 : I.sn = iblk m c 4 t) (h5 : I.dm = iblk m c 5 t) (h6 : I.kd = iblk m c 6 t) (h7 : I.qd = iblk m c 7 t)
    (h8 : I.gw = iblk m c 8 t) (h9 : I.cw = iblk m c 9 t) (h10 : I.wo = iblk m c 10 t) : Fits I (args m c) (ptB t) (ptC t) :=
  ⟨fun u r k => (congrFun h0 (ix3 u r k)).trans (blk_x m c t u r k),
   fun u k => (congrFun h1 (ix2 u k)).trans (blk_n1 m c t u k),
   fun k d => (congrFun h2 (ix2 k d)).trans (blk_wi m c t k d),
   fun r d => (congrFun h3 (ix2 r d)).trans (blk_cos m c t r d),
   fun r d => (congrFun h4 (ix2 r d)).trans (blk_sin m c t r d),
   fun h i j => (congrFun h5 (ix3 h i j)).trans (blk_dm m c t h i j),
   fun i h d => (congrFun h6 (ix2 i (col h d))).trans (blk_kd m c t i h d),
   fun i h d => (congrFun h7 (ix2 i (col h d))).trans (blk_qd m c t i h d),
   fun u d => (congrFun h8 (ix2 u d)).trans (blk_gw m c t u d),
   fun j d => (congrFun h9 (ix2 j d)).trans (blk_cw m c t j d),
   fun k d => (congrFun h10 (ix2 k d)).trans (blk_wo m c t k d)⟩

/-- So it does with any carried state. -/
theorem fits_at (t : Fin cfg0.N) (s : Vec Ideal S4x128x128 .f32) (o : Fin 8 → Fin 512 → EReal) :
    Fits (insAt m c t s o) (args m c) (ptB t) (ptC t) :=
  by
  apply fits_of m c t (insAt m c t s o) <;> simp only [insAt]

/-- A grid point's inputs fit the layer's arguments. -/
theorem fits (t : Fin cfg0.N) : Fits (insOf m c t) (args m c) (ptB t) (ptC t) := by
  unfold insOf
  by_cases h : t.val % 16 = 0
  · rw [if_pos h]
    exact fits_at m c t _ _
  · rw [if_neg h]
    exact fits_at m c t _ _

/-- The state is reset to zeros. -/
theorem pay2_apply (y : S4x128x128.Idx) : k0_pay2 (F := Ideal) y = (0 : EReal) := by
  unfold k0_pay2
  pointwise
/-- The kept rows are reset to zeros. -/
theorem pay3_apply (y : S8x512.Idx) : k0_pay3 (F := Ideal) y = (0 : EReal) := by
  unfold k0_pay3
  pointwise

/-- What is carried to every point. -/
theorem carries : ∀ (n : ℕ) (hn : n < cfg0.N), Carries (insOf m c ⟨n, hn⟩) (args m c) (ptB ⟨n, hn⟩) (ptC ⟨n, hn⟩) := by
  intro n
  induction n with
  | zero =>
    intro hn
    have e : insOf m c ⟨0, hn⟩ = insA m c ⟨0, hn⟩ := if_pos rfl
    rw [e]
    exact ⟨fun h d e => (pay2_apply (ix3 h d e)).trans (Args.prevN_zero _ _ _ _ _).symm,
      fun i d => (pay3_apply (ix2 i d)).trans (Args.cuBack_none _ _ _ _ _ (show ¬8 - i.val ≤ 0 by omega)).symm⟩
  | succ n ih =>
    intro hn
    by_cases h : (n + 1) % 16 = 0
    · have e : insOf m c ⟨n + 1, hn⟩ = insA m c ⟨n + 1, hn⟩ := if_pos h
      have eq : (ptC ⟨n + 1, hn⟩).val = 0 := h
      rw [e]
      refine ⟨fun h' d e' => (pay2_apply (ix3 h' d e')).trans ?_, fun i d => (pay3_apply (ix2 i d)).trans ?_⟩
      · rw [eq]
        exact (Args.prevN_zero _ _ _ _ _).symm
      · refine (Args.cuBack_none _ _ _ _ _ (show ¬8 - i.val ≤ (tokT (ptC ⟨n + 1, hn⟩) 0).val from ?_)).symm
        show ¬8 - i.val ≤ (ptC ⟨n + 1, hn⟩).val * 256 + 0
        omega
    · have hn' : n < cfg0.N := by omega
      have e : insOf m c ⟨n + 1, hn⟩ = insB m c ⟨n + 1, hn⟩ := if_neg h
      have K := ih hn'
      have F := fits m c ⟨n, hn'⟩
      have eb : ptB ⟨n + 1, hn⟩ = ptB ⟨n, hn'⟩ := Fin.ext (by show (n + 1) / 16 = n / 16; omega)
      have ec : (ptC ⟨n + 1, hn⟩).val = (ptC ⟨n, hn'⟩).val + 1 := by show (n + 1) % 16 = n % 16 + 1; omega
      rw [e, eb]
      refine ⟨fun h' d e' => ?_, fun i d => ?_⟩
      · have es := congrFun (state_eq m c ⟨n, hn'⟩) (ix3 h' d e')
        refine Eq.trans es ?_
        rw [st2_eq F K, ec]
        rfl
      · have es := congrFun (tail_eq m c ⟨n, hn'⟩) (ix2 ⟨i.val, by omega⟩ d)
        refine Eq.trans es ?_
        refine (carr_old (fun i d => (insOf m c ⟨n, hn'⟩).cu (ix2 ⟨248 + i.val, by omega⟩ d)) (insOf m c ⟨n, hn'⟩).cu i d).trans ?_
        show (insOf m c ⟨n, hn'⟩).cu (ix2 ⟨248 + i.val, by omega⟩ d) = _
        rw [cu_eq F]
        unfold Args.cuBack
        have h0 : (tokT (ptC ⟨n + 1, hn⟩) 0).val = (ptC ⟨n + 1, hn⟩).val * 256 := rfl
        rw [dif_pos (show 8 - i.val ≤ (tokT (ptC ⟨n + 1, hn⟩) 0).val by omega)]
        refine congrArg (fun s => (args m c).cu _ s d) (Fin.ext ?_)
        show (ptC ⟨n, hn'⟩).val * 256 + (248 + i.val) = (tokT (ptC ⟨n + 1, hn⟩) 0).val - (8 - i.val)
        omega

/-- Every point's tile is the layer's. -/
theorem tile_at (t : Fin cfg0.N) (j : Fin 2) (i : Fin 128) (d : Fin 1024) :
    (outsAt0 m c t.val t.isLt).1 (ix3 0 (row j i) d) = (args m c).out (ptB t) (chk (ptC t) j) i d := by
  rw [tile_eq]
  exact tile_out (fits m c t) (carries m c t.val t.isLt) j i d

end Cert.Mixer
-- ==== Proof.Mixer.RefRows.lean ====
/-
  The reference's stages, read at an entry.
-/
module

public import proofs.«01_k».proof.Proof.Mixer.Spec
public import proofs.«01_k».proof.Proof.Gen.ReferenceIdeal.Run

@[expose] public section

set_option maxRecDepth 16384

noncomputable section

namespace Cert.Mixer.Ref

open Cert.ReferenceIdeal Cert.ReferenceIdeal.Value
open Idealize.ShloMosaic

variable (V : Valuation τ sig (Elt Ideal))

/-- The reference's arrays. -/
def argsOf : Args where
  x b s k := V (Proc.devRef .tc main_arg0) (ix3 b s k)
  n1 k := V (Proc.devRef .tc main_arg1) (ix1 k)
  wi k c := V (Proc.devRef .tc main_arg2) (ix2 k c)
  gw c := V (Proc.devRef .tc main_arg3) (ix1 c)
  cw j c := V (Proc.devRef .tc main_arg4) (ix2 j c)
  wo k d := V (Proc.devRef .tc main_arg5) (ix2 k d)

/-- An entry of the reference's projected rows. -/
theorem v13_apply (b : Fin 4) (s : Fin 4096) (c : Fin 3584) : res_main_v13 V (ix3 b s c) = (argsOf V).proj b s c := by
  unfold res_main_v13 Args.proj rmsE argsOf
  pointwise

/-- The reference's queries are the projection's first columns. -/
theorem v22_apply (b : Fin 4) (s : Fin 4096) (h : Fin 4) (d : Fin 128) : res_main_v22 V (ix4 b s h d) = (argsOf V).proj b s (pcol 0 h d) := by
  unfold res_main_v22
  pointwise
  rw [v13_apply]
  exact congrArg _ (Fin.ext (by simp only [pcol, Fin.val_zero]; omega))

/-- The reference's keys are the projection's second columns. -/
theorem v54_apply (b : Fin 4) (s : Fin 4096) (h : Fin 4) (d : Fin 128) : res_main_v54 V (ix4 b s h d) = (argsOf V).proj b s (pcol 1 h d) := by
  unfold res_main_v54
  pointwise
  rw [v13_apply]
  exact congrArg _ (Fin.ext (by simp only [pcol, Fin.val_one]; omega))

/-- The rotation's angle, for the queries. -/
theorem v34_apply (s : Fin 4096) (d : Fin 64) : res_main_v34 V (ix2 s d) = ang s d := by
  unfold res_main_v34 res_main_v21 ang
  pointwise

/-- The rotation's angle, for the keys. -/
theorem v66_apply (s : Fin 4096) (d : Fin 64) : res_main_v66 V (ix2 s d) = ang s d := by
  unfold res_main_v66 res_main_v21 ang
  pointwise

/-- The log of a head's decay. -/
theorem v91_apply (h : Fin 4) : res_main_v91 V (ix1 h) = lg h := by
  unfold res_main_v91 lg
  pointwise

/-- A query's first half. -/
theorem v39_apply (b : Fin 4) (s : Fin 4096) (h : Fin 4) (d : Fin 64) :
    res_main_v39 V (ix4 b s h d) = (argsOf V).proj b s (pcol 0 h ⟨d.val, by omega⟩) := by
  unfold res_main_v39
  pointwise
  rw [v22_apply]

/-- A query's second half. -/
theorem v40_apply (b : Fin 4) (s : Fin 4096) (h : Fin 4) (d : Fin 64) :
    res_main_v40 V (ix4 b s h d) = (argsOf V).proj b s (pcol 0 h ⟨d.val + 64, by omega⟩) := by
  unfold res_main_v40
  pointwise
  rw [v22_apply]
  simp only [Nat.add_comm 64]

/-- The cosine, for the queries. -/
theorem v36_apply (u : Fin 1) (s : Fin 4096) (w : Fin 1) (d : Fin 64) :
    res_main_v36 V (ix4 u s w d) = Ideal.cos (ang s d) := by
  unfold res_main_v36
  pointwise
  rw [v34_apply]

/-- The sine, for the queries. -/
theorem v38_apply (u : Fin 1) (s : Fin 4096) (w : Fin 1) (d : Fin 64) :
    res_main_v38 V (ix4 u s w d) = Ideal.sin (ang s d) := by
  unfold res_main_v38
  pointwise
  rw [v34_apply]

/-- A turned part, as the concatenated halves state it. -/
theorem rot_of (A : Args) (n : Fin 7) (b : Fin 4) (h : Fin 4) (s : Fin 4096) (d : Fin 128) :
    (if hd : d.val < 64 then
      A.proj b s (pcol n h ⟨d.val, by omega⟩) * Ideal.cos (ang s ⟨d.val, hd⟩)
        - A.proj b s (pcol n h ⟨d.val + 64, by omega⟩) * Ideal.sin (ang s ⟨d.val, hd⟩)
    else
      A.proj b s (pcol n h ⟨d.val - 64 + 64, by omega⟩) * Ideal.cos (ang s ⟨d.val - 64, by omega⟩)
        + A.proj b s (pcol n h ⟨d.val - 64, by omega⟩) * Ideal.sin (ang s ⟨d.val - 64, by omega⟩)) = A.rot n b h s d := by
  unfold Args.rot
  by_cases hd : d.val < 64
  · rw [dif_pos hd, dif_pos hd]
  · rw [dif_neg hd, dif_neg hd]
    have e : (⟨d.val - 64 + 64, by omega⟩ : Fin 128) = d := Fin.ext (by simp only []; omega)
    rw [e]

/-- The reference's rotated and scaled queries. -/
theorem v125_apply (b : Fin 4) (n : Fin 32) (i : Fin 128) (h : Fin 4) (d : Fin 128) :
    res_main_v125 V (ix5 b n i h d) = (argsOf V).rot 0 b h (tok n i) d * scale := by
  unfold res_main_v125
  pointwise
  simp only [v39_apply, v40_apply, v36_apply, v38_apply]
  exact congrArg (· * scale) (rot_of (argsOf V) 0 b h (tok n i) d)

/-- A key's first half. -/
theorem v71_apply (b : Fin 4) (s : Fin 4096) (h : Fin 4) (d : Fin 64) :
    res_main_v71 V (ix4 b s h d) = (argsOf V).proj b s (pcol 1 h ⟨d.val, by omega⟩) := by
  unfold res_main_v71
  pointwise
  rw [v54_apply]

/-- A key's second half. -/
theorem v72_apply (b : Fin 4) (s : Fin 4096) (h : Fin 4) (d : Fin 64) :
    res_main_v72 V (ix4 b s h d) = (argsOf V).proj b s (pcol 1 h ⟨d.val + 64, by omega⟩) := by
  unfold res_main_v72
  pointwise
  rw [v54_apply]
  simp only [Nat.add_comm 64]

/-- The cosine, for the keys. -/
theorem v68_apply (u : Fin 1) (s : Fin 4096) (w : Fin 1) (d : Fin 64) :
    res_main_v68 V (ix4 u s w d) = Ideal.cos (ang s d) := by
  unfold res_main_v68
  pointwise
  rw [v66_apply]

/-- The sine, for the keys. -/
theorem v70_apply (u : Fin 1) (s : Fin 4096) (w : Fin 1) (d : Fin 64) :
    res_main_v70 V (ix4 u s w d) = Ideal.sin (ang s d) := by
  unfold res_main_v70
  pointwise
  rw [v66_apply]

/-- The reference's rotated keys. -/
theorem v126_apply (b : Fin 4) (n : Fin 32) (i : Fin 128) (h : Fin 4) (d : Fin 128) :
    res_main_v126 V (ix5 b n i h d) = (argsOf V).rot 1 b h (tok n i) d := by
  unfold res_main_v126
  pointwise
  simp only [v71_apply, v72_apply, v68_apply, v70_apply]
  exact rot_of (argsOf V) 1 b h (tok n i) d

/-- The reference's values are the projection's third columns. -/
theorem v127_apply (b : Fin 4) (n : Fin 32) (i : Fin 128) (h : Fin 4) (d : Fin 128) :
    res_main_v127 V (ix5 b n i h d) = (argsOf V).proj b (tok n i) (pcol 2 h d) := by
  unfold res_main_v127 tok
  pointwise
  rw [v13_apply]
  exact congrArg _ (Fin.ext (by simp only [pcol]; show _ = 128 * (4 * 2 + h.val) + d.val; omega))

/-- The distance of two rows in a chunk. -/
theorem v97_apply (i j : Fin 128) : res_main_v97 V (ix2 i j) = num i.val - num j.val := by
  unfold res_main_v97 res_main_v92
  pointwise

/-- The chunks between two chunks. -/
theorem v146_apply (n m : Fin 32) : res_main_v146 V (ix2 n m) = num n.val - 1 - num m.val := by
  unfold res_main_v146 res_main_v139
  pointwise

end Cert.Mixer.Ref
-- ==== Proof.Mixer.RefOut.lean ====
/-
  The reference's retention and its whole result, entry by entry.
-/
module

public import proofs.«01_k».proof.Proof.Mixer.RefRows

@[expose] public section

set_option maxRecDepth 16384

noncomputable section

namespace Cert.Mixer.Ref

open Cert.ReferenceIdeal.Gen
open Cert.ReferenceIdeal Cert.ReferenceIdeal.Value
open Idealize.ShloMosaic

variable (V : Valuation τ sig (Elt Ideal))

/-- The reference's scores inside a chunk. -/
def scoresT : FVec Ideal S4x32x4x128x128 .f32 :=
  Host.dotGeneral (φ₁ := .f32) (φ₂ := .f32) dot_S4x32x128x4x128_S4x32x128x4x128_S4x32x4x128x128_4_4_2_2_013_013 none (res_main_v125 V) (res_main_v126 V)

/-- The reference's decay mask, spread. -/
def dmT : FVec Ideal S4x32x4x128x128 .f32 :=
  broadcastInDim S4x32x4x128x128 ![0, 1, 2, 3, 4] bcast_S1x1x4x128x128_S4x32x4x128x128_0_1_2_3_4 (broadcastInDim S1x1x4x128x128 ![2, 3, 4] bcast_S4x128x128_S1x1x4x128x128_2_3_4 (select (broadcastInDim S4x128x128 ![0, 1, 2] bcast_S1x128x128_S4x128x128_0_1_2 (broadcastInDim S1x128x128 ![1, 2] bcast_S128x128_S1x128x128_1_2 (res_main_v99 V))) (Host.exp (mulf (broadcastInDim S4x128x128 ![0, 1, 2] bcast_S4x1x1_S4x128x128_0_1_2 (broadcastInDim S4x1x1 ![0] bcast_S4_S4x1x1_0 (res_main_v91 V))) (broadcastInDim S4x128x128 ![0, 1, 2] bcast_S1x128x128_S4x128x128_0_1_2 (broadcastInDim S1x128x128 ![1, 2] bcast_S128x128_S1x128x128_1_2 (select (res_main_v99 V) (res_main_v97 V) (broadcastInDim S128x128 ![] bcast_S_S128x128 (id (constant S_ .f32 0x00000000#32)))))))) (broadcastInDim S4x128x128 ![] bcast_S_S4x128x128 (id (constant S_ .f32 0x00000000#32)))))

/-- The reference's key decays, spread. -/
def kdT : FVec Ideal S4x32x128x4x128 .f32 :=
  broadcastInDim S4x32x128x4x128 ![0, 1, 2, 3, 4] bcast_S1x1x128x4x1_S4x32x128x4x128_0_1_2_3_4 (broadcastInDim S1x1x128x4x1 ![2, 3] bcast_S128x4_S1x1x128x4x1_2_3 (transpose S128x4 [1, 0] (Host.exp (mulf (broadcastInDim S4x128 ![0, 1] bcast_S4x1_S4x128_0_1 (broadcastInDim S4x1 ![0] bcast_S4_S4x1_0 (res_main_v91 V))) (broadcastInDim S4x128 ![0, 1] bcast_S1x128_S4x128_0_1 (broadcastInDim S1x128 ![1] bcast_S128_S1x128_1 (subf (broadcastInDim S128 ![] bcast_S_S128 (constant S_ .f32 0x42FE0000#32)) (res_main_v92 V)))))) transposes_S4x128_S128x4_1_0))

/-- The reference's product of keys and values, chunk by chunk. -/
def kvT : FVec Ideal S4x32x4x128x128 .f32 :=
  Host.dotGeneral (φ₁ := .f32) (φ₂ := .f32) dot_S4x32x128x4x128_S4x32x128x4x128_S4x32x4x128x128_2_2_4_4_013_013 none (mulf (res_main_v126 V) (kdT V)) (res_main_v127 V)

/-- The reference's decays between chunks. -/
def btT : FVec Ideal S4x32x32 .f32 :=
  select (broadcastInDim S4x32x32 ![0, 1, 2] bcast_S1x32x32_S4x32x32_0_1_2 (broadcastInDim S1x32x32 ![1, 2] bcast_S32x32_S1x32x32_1_2 (cmpf .oge (res_main_v146 V) (broadcastInDim S32x32 ![] bcast_S_S32x32 (constant S_ .f32 0x00000000#32))))) (Host.exp (mulf (broadcastInDim S4x32x32 ![0, 1, 2] bcast_S4x1x1_S4x32x32_0_1_2 (mulf (broadcastInDim S4x1x1 ![0] bcast_S4_S4x1x1_0 (res_main_v91 V)) (broadcastInDim S4x1x1 ![] bcast_S_S4x1x1 (constant S_ .f32 0x43000000#32)))) (broadcastInDim S4x32x32 ![0, 1, 2] bcast_S1x32x32_S4x32x32_0_1_2 (broadcastInDim S1x32x32 ![1, 2] bcast_S32x32_S1x32x32_1_2 (select (cmpf .oge (res_main_v146 V) (broadcastInDim S32x32 ![] bcast_S_S32x32 (constant S_ .f32 0x00000000#32))) (res_main_v146 V) (broadcastInDim S32x32 ![] bcast_S_S32x32 (id (constant S_ .f32 0x00000000#32)))))))) (broadcastInDim S4x32x32 ![] bcast_S_S4x32x32 (id (constant S_ .f32 0x00000000#32)))

/-- The reference's query decays, spread. -/
def qdT : FVec Ideal S4x32x128x4x128 .f32 :=
  broadcastInDim S4x32x128x4x128 ![0, 1, 2, 3, 4] bcast_S1x1x128x4x1_S4x32x128x4x128_0_1_2_3_4 (broadcastInDim S1x1x128x4x1 ![2, 3] bcast_S128x4_S1x1x128x4x1_2_3 (transpose S128x4 [1, 0] (Host.exp (mulf (broadcastInDim S4x128 ![0, 1] bcast_S4x1_S4x128_0_1 (broadcastInDim S4x1 ![0] bcast_S4_S4x1_0 (res_main_v91 V))) (broadcastInDim S4x128 ![0, 1] bcast_S1x128_S4x128_0_1 (broadcastInDim S1x128 ![1] bcast_S128_S1x128_1 (addf (res_main_v92 V) (broadcastInDim S128 ![] bcast_S_S128 (constant S_ .f32 0x3F800000#32))))))) transposes_S4x128_S128x4_1_0))

/-- The reference's state before each chunk. -/
def prevT : FVec Ideal S4x32x4x128x128 .f32 :=
  transpose S4x32x4x128x128 [1, 4, 0, 2, 3] (Host.dotGeneral (φ₁ := .f32) (φ₂ := .f32) dot_S4x32x4x128x128_S4x32x32_S4x4x128x128x32_1_2_034_1_2_0 none (kvT V) (btT V)) transposes_S4x4x128x128x32_S4x32x4x128x128_1_4_0_2_3

/-- The reference's part inside a chunk. -/
def intraT : FVec Ideal S4x32x128x4x128 .f32 :=
  transpose S4x32x128x4x128 [0, 1, 4, 2, 3] (Host.dotGeneral (φ₁ := .f32) (φ₂ := .f32) dot_S4x32x128x4x128_S4x32x4x128x128_S4x32x4x128x128_2_4_4_3_013_012 none (res_main_v127 V) (mulf (scoresT V) (dmT V))) transposes_S4x32x4x128x128_S4x32x128x4x128_0_1_4_2_3

/-- The reference's part through the state. -/
def interT : FVec Ideal S4x32x128x4x128 .f32 :=
  transpose S4x32x128x4x128 [0, 1, 4, 2, 3] (Host.dotGeneral (φ₁ := .f32) (φ₂ := .f32) dot_S4x32x4x128x128_S4x32x128x4x128_S4x32x4x128x128_3_4_4_2_012_013 none (prevT V) (res_main_v125 V)) transposes_S4x32x4x128x128_S4x32x128x4x128_0_1_4_2_3

/-- The reference's retention rows, in these parts. -/
theorem v171_eq : res_main_v171 V = shapeCast _ (addf (intraT V) (mulf (interT V) (qdT V))) shapeCasts_S4x32x128x4x128_S4x4096x4x128 := by
  unfold res_main_v171 intraT interT qdT scoresT dmT prevT kvT kdT btT
  rfl

/-- An entry of the scores. -/
theorem scoresT_apply (b : Fin 4) (n : Fin 32) (h : Fin 4) (i j : Fin 128) :
    scoresT V (ix5 b n h i j) = ∑ d : Fin 128, (argsOf V).rot 0 b h (tok n i) d * scale * (argsOf V).rot 1 b h (tok n j) d := by
  unfold scoresT
  pointwise
  simp only [v125_apply, v126_apply]

/-- An entry of the decay mask. -/
theorem dmT_apply (b : Fin 4) (n : Fin 32) (h : Fin 4) (i j : Fin 128) : dmT V (ix5 b n h i j) = dmat h i j := by
  unfold dmT
  simp only [id_eq]
  unfold res_main_v99 dmat
  pointwise
  simp only [v91_apply, v97_apply]

/-- The chunk's product of any keys, decays and values, at an entry. -/
theorem dotK_apply (A K B : FVec Ideal S4x32x128x4x128 .f32) (b : Fin 4) (n : Fin 32) (h : Fin 4) (d e : Fin 128) :
    Host.dotGeneral (φ₁ := .f32) (φ₂ := .f32) dot_S4x32x128x4x128_S4x32x128x4x128_S4x32x4x128x128_2_2_4_4_013_013 none (mulf A K) B (ix5 b n h d e)
      = ∑ i : Fin 128, A (ix5 b n i h d) * K (ix5 b n i h d) * B (ix5 b n i h e) := by
  pointwise

/-- An entry of the key decays. -/
theorem kdT_apply (b : Fin 4) (n : Fin 32) (i : Fin 128) (h : Fin 4) (d : Fin 128) : kdT V (ix5 b n i h d) = kdec h i := by
  unfold kdT res_main_v92 kdec
  pointwise
  simp only [v91_apply]

/-- An entry of a chunk's product. -/
theorem kvT_apply (b : Fin 4) (n : Fin 32) (h : Fin 4) (d e : Fin 128) : kvT V (ix5 b n h d e) = (argsOf V).kv b h n d e := by
  refine (dotK_apply (res_main_v126 V) (kdT V) (res_main_v127 V) b n h d e).trans ?_
  simp only [v126_apply, v127_apply, kdT_apply]
  rfl

/-- An entry of the decays between chunks. -/
theorem btT_apply (h : Fin 4) (n m : Fin 32) : btT V (ix3 h n m) = between h n m := by
  unfold btT between
  simp only [id_eq]
  pointwise
  simp only [v91_apply, v146_apply]

/-- An entry of the query decays. -/
theorem qdT_apply (b : Fin 4) (n : Fin 32) (i : Fin 128) (h : Fin 4) (e : Fin 128) : qdT V (ix5 b n i h e) = qdec h i := by
  unfold qdT res_main_v92 qdec
  pointwise
  simp only [v91_apply]

/-- An entry of the state before a chunk. -/
theorem prevT_apply (b : Fin 4) (n : Fin 32) (h : Fin 4) (d e : Fin 128) : prevT V (ix5 b n h d e) = (argsOf V).prev b h n d e := by
  unfold prevT Args.prev
  pointwise
  simp only [kvT_apply, btT_apply]

/-- Masked scores times values, at an entry, of any arrays. -/
theorem intra_apply (A : FVec Ideal S4x32x128x4x128 .f32) (S D : FVec Ideal S4x32x4x128x128 .f32) (b : Fin 4) (n : Fin 32) (i : Fin 128) (h : Fin 4) (e : Fin 128) :
    transpose S4x32x128x4x128 [0, 1, 4, 2, 3] (Host.dotGeneral (φ₁ := .f32) (φ₂ := .f32) dot_S4x32x128x4x128_S4x32x4x128x128_S4x32x4x128x128_2_4_4_3_013_012 none A (mulf S D))
        transposes_S4x32x4x128x128_S4x32x128x4x128_0_1_4_2_3 (ix5 b n i h e)
      = ∑ j : Fin 128, A (ix5 b n j h e) * (S (ix5 b n h i j) * D (ix5 b n h i j)) := by
  pointwise

/-- Queries times state, at an entry, of any arrays. -/
theorem inter_apply (A : FVec Ideal S4x32x4x128x128 .f32) (B : FVec Ideal S4x32x128x4x128 .f32) (b : Fin 4) (n : Fin 32) (i : Fin 128) (h : Fin 4) (e : Fin 128) :
    transpose S4x32x128x4x128 [0, 1, 4, 2, 3] (Host.dotGeneral (φ₁ := .f32) (φ₂ := .f32) dot_S4x32x4x128x128_S4x32x128x4x128_S4x32x4x128x128_3_4_4_2_012_013 none A B)
        transposes_S4x32x4x128x128_S4x32x128x4x128_0_1_4_2_3 (ix5 b n i h e)
      = ∑ d : Fin 128, A (ix5 b n h d e) * B (ix5 b n i h d) := by
  pointwise

/-- The two parts joined and the chunks laid end to end, at an entry. -/
theorem joined_apply (A B C : FVec Ideal S4x32x128x4x128 .f32) (b : Fin 4) (n : Fin 32) (i : Fin 128) (h : Fin 4) (e : Fin 128) :
    shapeCast S4x4096x4x128 (addf A (mulf B C)) shapeCasts_S4x32x128x4x128_S4x4096x4x128 (ix4 b (tok n i) h e)
      = A (ix5 b n i h e) + B (ix5 b n i h e) * C (ix5 b n i h e) := by
  unfold tok
  pointwise

/-- An entry of the part inside a chunk. -/
theorem intraT_apply (b : Fin 4) (n : Fin 32) (i : Fin 128) (h : Fin 4) (e : Fin 128) :
    intraT V (ix5 b n i h e) = ∑ j : Fin 128, (argsOf V).proj b (tok n j) (pcol 2 h e)
      * ((∑ d : Fin 128, (argsOf V).rot 0 b h (tok n i) d * scale * (argsOf V).rot 1 b h (tok n j) d) * dmat h i j) := by
  refine (intra_apply (res_main_v127 V) (scoresT V) (dmT V) b n i h e).trans ?_
  simp only [v127_apply, scoresT_apply, dmT_apply]

/-- An entry of the part through the state. -/
theorem interT_apply (b : Fin 4) (n : Fin 32) (i : Fin 128) (h : Fin 4) (e : Fin 128) :
    interT V (ix5 b n i h e) = ∑ d : Fin 128, (argsOf V).prev b h n d e * ((argsOf V).rot 0 b h (tok n i) d * scale) := by
  refine (inter_apply (prevT V) (res_main_v125 V) b n i h e).trans ?_
  simp only [v125_apply, prevT_apply]

/-- An entry of the reference's retention rows is the layer's. -/
theorem v171_apply (b : Fin 4) (n : Fin 32) (i : Fin 128) (h : Fin 4) (e : Fin 128) :
    res_main_v171 V (ix4 b (tok n i) h e) = (argsOf V).ret b h n i e := by
  rw [v171_eq]
  refine (joined_apply (intraT V) (interT V) (qdT V) b n i h e).trans ?_
  rw [intraT_apply, interT_apply, qdT_apply]
  rfl

end Cert.Mixer.Ref
-- ==== Proof.Mixer.RefEnd.lean ====
/-
  The reference's normalisation, convolution and result, entry by entry.
-/
module

public import proofs.«01_k».proof.Proof.Mixer.RefOut

@[expose] public section

set_option maxRecDepth 16384

noncomputable section

namespace Cert.Mixer.Ref

open Cert.ReferenceIdeal.Gen
open Cert.ReferenceIdeal Cert.ReferenceIdeal.Value
open Idealize.ShloMosaic

variable (V : Valuation τ sig (Elt Ideal))

/-- The reference's group norm, before its weights. -/
def normT : FVec Ideal S4x4096x512 .f32 :=
  shapeCast _ (mulf (subf (res_main_v171 V) (broadcastInDim S4x4096x4x128 ![0, 1, 2, 3] bcast_S4x4096x4x1_S4x4096x4x128_0_1_2_3 (res_main_v176 V))) (broadcastInDim S4x4096x4x128 ![0, 1, 2, 3] bcast_S4x4096x4x1_S4x4096x4x128_0_1_2_3 (Host.rsqrt (addf (Host.divf (broadcastInDim S4x4096x4x1 ![0, 1, 2] bcast_S4x4096x4_S4x4096x4x1_0_1_2 (Host.reduceAdd (mulf (res_main_v178 V) (res_main_v178 V)) (constant S_ .f32 0x00000000#32) reducesTo_S4x4096x4x128_S4x4096x4_d3 h_S_)) (broadcastInDim S4x4096x4x1 ![] bcast_S_S4x4096x4x1 (constant S_ .f32 0x43000000#32))) (broadcastInDim S4x4096x4x1 ![] bcast_S_S4x4096x4x1 (constant S_ .f32 0x358637BD#32)))))) shapeCasts_S4x4096x4x128_S4x4096x512

/-- The reference's gated heads. -/
def gatedT : FVec Ideal S4x4096x512 .f32 :=
  mulf (mulf (res_main_v17 V) (Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf (res_main_v17 V)))))) (mulf (normT V) (broadcastInDim S4x4096x512 ![0, 1, 2] bcast_S1x1x512_S4x4096x512_0_1_2 (broadcastInDim S1x1x512 ![2] bcast_S512_S1x1x512_2 (V (Proc.devRef .tc main_arg3)))))

/-- The reference's gated convolution. -/
def convT : FVec Ideal S4x4096x512 .f32 :=
  mulf (extractStridedSlice S4x4096x512 ![0, 0, 2048] (res_main_v13 V) slices_S4x4096x3584_S4x4096x512_0_0_2048) (addf (addf (mulf (extractStridedSlice S4x4096x512 ![0, 0, 0] (res_main_v198 V) slices_S4x4098x512_S4x4096x512_0_0_0) (broadcastInDim S4x4096x512 ![0, 1, 2] bcast_S1x1x512_S4x4096x512_0_1_2 (broadcastInDim S1x1x512 ![2] bcast_S512_S1x1x512_2 (shapeCast _ (extractStridedSlice S1x512 ![0, 0] (V (Proc.devRef .tc main_arg4)) slices_S3x512_S1x512_0_0) shapeCasts_S1x512_S512)))) (mulf (extractStridedSlice S4x4096x512 ![0, 1, 0] (res_main_v198 V) slices_S4x4098x512_S4x4096x512_0_1_0) (broadcastInDim S4x4096x512 ![0, 1, 2] bcast_S1x1x512_S4x4096x512_0_1_2 (broadcastInDim S1x1x512 ![2] bcast_S512_S1x1x512_2 (shapeCast _ (extractStridedSlice S1x512 ![1, 0] (V (Proc.devRef .tc main_arg4)) slices_S3x512_S1x512_1_0) shapeCasts_S1x512_S512))))) (mulf (res_main_v196 V) (broadcastInDim S4x4096x512 ![0, 1, 2] bcast_S1x1x512_S4x4096x512_0_1_2 (broadcastInDim S1x1x512 ![2] bcast_S512_S1x1x512_2 (shapeCast _ (extractStridedSlice S1x512 ![2, 0] (V (Proc.devRef .tc main_arg4)) slices_S3x512_S1x512_2_0) shapeCasts_S1x512_S512)))))

/-- The reference's result. -/
def resultT : FVec Ideal S4x4096x1024 .f32 :=
  addf (V (Proc.devRef .tc main_arg0)) (Host.dotGeneral (φ₁ := .f32) (φ₂ := .f32) dot_S4x4096x1024_S1024x1024_S4x4096x1024_2_0_01_1_n_n none (concatenate S4x4096x1024 2 [⟨S4x4096x512, (gatedT V)⟩, ⟨S4x4096x512, (convT V)⟩] concatenates_S4x4096x512_S4x4096x512_S4x4096x1024_d2) (V (Proc.devRef .tc main_arg5)))

/-- The reference's mean over a head. -/
theorem v176_apply (b : Fin 4) (n : Fin 32) (i : Fin 128) (h : Fin 4) (u : Fin 1) :
    res_main_v176 V (ix4 b (tok n i) h u) = meanE ((argsOf V).ret b h n i) := by
  unfold res_main_v176 meanE
  pointwise
  simp only [v171_apply]

/-- The reference's rows less their mean. -/
theorem v178_apply (b : Fin 4) (n : Fin 32) (i : Fin 128) (h : Fin 4) (e : Fin 128) :
    res_main_v178 V (ix4 b (tok n i) h e) = (argsOf V).ret b h n i e - meanE ((argsOf V).ret b h n i) := by
  unfold res_main_v178
  pointwise
  rw [v176_apply, v171_apply]

/-- An entry of the reference's group norm. -/
theorem normT_apply (b : Fin 4) (n : Fin 32) (i : Fin 128) (c : Fin 512) :
    normT V (ix3 b (tok n i) c) = normE ((argsOf V).ret b ⟨c.val / 128, by omega⟩ n i) ⟨c.val % 128, by omega⟩ := by
  unfold normT
  pointwise
  simp only [v178_apply, v171_apply, v176_apply]
  rfl

/-- An entry of the reference's gated heads. -/
theorem gatedT_apply (b : Fin 4) (n : Fin 32) (i : Fin 128) (c : Fin 512) :
    gatedT V (ix3 b (tok n i) c) = (argsOf V).head b ⟨c.val / 128, by omega⟩ n i ⟨c.val % 128, by omega⟩ := by
  unfold gatedT res_main_v17
  pointwise
  simp only [v13_apply, normT_apply]
  unfold Args.head gateE
  have e1 : pcol 3 (⟨c.val / 128, by omega⟩ : Fin 4) ⟨c.val % 128, by omega⟩ = (⟨1536 + c.val, by omega⟩ : Fin 3584) :=
    Fin.ext (by simp only [pcol]; show 128 * (4 * 3 + c.val / 128) + c.val % 128 = _; omega)
  have e2 : col (⟨c.val / 128, by omega⟩ : Fin 4) ⟨c.val % 128, by omega⟩ = c := Fin.ext (by simp only [col]; omega)
  rw [e1, e2]
  rfl

/-- The reference's padded convolution input: two rows of zeros, then the rows. -/
theorem v198_apply (b : Fin 4) (s : Fin 4098) (d : Fin 512) :
    res_main_v198 V (ix3 b s d) = if h : s.val < 2 then (0 : EReal) else (argsOf V).cu b ⟨s.val - 2, by omega⟩ d := by
  unfold res_main_v198 res_main_v196 Args.cu
  pointwise
  simp only [v13_apply]

/-- An entry of the reference's gated convolution. -/
theorem convT_apply (b : Fin 4) (s : Fin 4096) (d : Fin 512) : convT V (ix3 b s d) = (argsOf V).conv b s d := by
  unfold convT res_main_v196 Args.conv
  pointwise
  simp only [v13_apply, v198_apply]
  have e2 : (if h : s.val < 2 then (0 : EReal) else (argsOf V).cu b ⟨s.val - 2, by omega⟩ d) = (argsOf V).cuBack b s 2 d := by
    unfold Args.cuBack
    by_cases h : s.val < 2
    · rw [dif_pos h, dif_neg (by omega)]
    · rw [dif_neg h, dif_pos (by omega)]
  have e1 : (if h : 1 + s.val < 2 then (0 : EReal) else (argsOf V).cu b ⟨1 + s.val - 2, by omega⟩ d) = (argsOf V).cuBack b s 1 d := by
    unfold Args.cuBack
    by_cases h : 1 + s.val < 2
    · rw [dif_pos h, dif_neg (by omega)]
    · rw [dif_neg h, dif_pos (by omega)]
      exact congrArg (fun t => (argsOf V).cu b t d) (Fin.ext (by simp only []; omega))
  rw [e2, e1]
  rfl

/-- The output projection of joined columns, with the residual, at an entry. -/
theorem result_apply (X : FVec Ideal S4x4096x1024 .f32) (G C : FVec Ideal S4x4096x512 .f32) (W : FVec Ideal S1024x1024 .f32)
    (b : Fin 4) (s : Fin 4096) (d : Fin 1024) :
    addf X (Host.dotGeneral dot_S4x4096x1024_S1024x1024_S4x4096x1024_2_0_01_1_n_n none
        (concatenate S4x4096x1024 2 [⟨S4x4096x512, G⟩, ⟨S4x4096x512, C⟩] concatenates_S4x4096x512_S4x4096x512_S4x4096x1024_d2) W) (ix3 b s d)
      = X (ix3 b s d) + ∑ k : Fin 1024, (if hk : k.val < 512 then G (ix3 b s ⟨k.val, hk⟩) else C (ix3 b s ⟨k.val - 512, by omega⟩)) * W (ix2 k d) := by
  pointwise

/-- The reference's result is the layer's. -/
theorem resultT_apply (b : Fin 4) (n : Fin 32) (i : Fin 128) (d : Fin 1024) :
    resultT V (ix3 b (tok n i) d) = (argsOf V).out b n i d := by
  refine (result_apply (V (Proc.devRef .tc main_arg0)) (gatedT V) (convT V) (V (Proc.devRef .tc main_arg5)) b (tok n i) d).trans ?_
  simp only [gatedT_apply, convT_apply]
  rfl

end Cert.Mixer.Ref
-- ==== Proof.Mixer.Value.lean ====
/-
  The value claim: kernel and reference end with the same residual stream.
-/
module

public import proofs.«01_k».proof.Defs
public import proofs.«01_k».proof.Proof.Gen.KernelIdeal.Value
public import proofs.«01_k».proof.Proof.Mixer.Grid
public import proofs.«01_k».proof.Proof.Mixer.RefEnd

@[expose] public section

set_option maxRecDepth 16384

noncomputable section

namespace Cert.Mixer

open Cert.KernelIdeal Cert.KernelIdeal.Gen
open Idealize.ShloMosaic Idealize.ShloMosaic.Pipeline Idealize.ShloMosaic.TcCoe Idealize.SL.Sem

variable (m : (ℓ : Loc nD τ sig) → Buf (Elt Ideal) ℓ) (c : Dev nD)

/-- Where a point's block lies. -/
theorem at15 : ∀ t : Fin cfg0.N, win0_15.index t 0 = t.val / 16 ∧ win0_15.index t 1 = t.val % 16 ∧ win0_15.index t 2 = 0 := by decide
/-- Every point writes its block back. -/
theorem flush15 : ∀ t : Fin cfg0.N, (cfg0.win 15).flush t = true := by decide

/-- A place of a point's block in the array. -/
theorem emb15 (t : Fin cfg0.N) (j : Fin 2) (i : Fin 128) (d : Fin 1024) :
    (((cfg0.win 15).blk t).view.emb (ix3 0 (row j i) d) : S4x4096x1024.Idx) = ix3 (ptB t) (tok (chk (ptC t) j) i) d := by
  funext a
  match a with
  | ⟨0, _⟩ => exact Fin.ext ((win0_15.rect_emb_val t (ix3 0 (row j i) d) 0).trans (by rw [(at15 t).1]; show t.val / 16 * 1 + 0 = t.val / 16; omega))
  | ⟨1, _⟩ => exact Fin.ext ((win0_15.rect_emb_val t (ix3 0 (row j i) d) 1).trans (by
      rw [(at15 t).2.1]; show t.val % 16 * 256 + (128 * j.val + i.val) = (2 * (t.val % 16) + j.val) * 128 + i.val; omega))
  | ⟨2, _⟩ => exact Fin.ext ((win0_15.rect_emb_val t (ix3 0 (row j i) d) 2).trans (by rw [(at15 t).2.2]; show 0 * 1024 + d.val = d.val; omega))

/-- The kernel's result is the layer's, block by block, -/
theorem result_at (t : Fin cfg0.N) (j : Fin 2) (i : Fin 128) (d : Fin 1024) :
    Value.G15 m c (ix3 (ptB t) (tok (chk (ptC t) j) i) d) = (args m c).out (ptB t) (chk (ptC t) j) i d := by
  refine Eq.trans ?_ (tile_at m c t j i d)
  rw [← emb15]
  refine (congrFun (Value.flushed15_eq m c t (flush15 t)) (ix3 0 (row j i) d)).symm.trans ?_
  rw [Value.flushed15]
  refine congrArg (outsAt0 m c t.val t.isLt).1 (funext fun a => ?_)
  match a with
  | ⟨0, _⟩ => rfl
  | ⟨1, _⟩ => rfl
  | ⟨2, _⟩ => rfl

/-- and so everywhere. -/
theorem result_entry (b : Fin 4) (n : Fin 32) (i : Fin 128) (d : Fin 1024) : Value.G15 m c (ix3 b (tok n i) d) = (args m c).out b n i d := by
  have e := result_at m c ⟨16 * b.val + n.val / 2, by show 16 * b.val + n.val / 2 < 64; omega⟩ ⟨n.val % 2, by omega⟩ i d
  have eb : ptB ⟨16 * b.val + n.val / 2, by show 16 * b.val + n.val / 2 < 64; omega⟩ = b := Fin.ext (by show (16 * b.val + n.val / 2) / 16 = b.val; omega)
  have en : chk (ptC ⟨16 * b.val + n.val / 2, by show 16 * b.val + n.val / 2 < 64; omega⟩) ⟨n.val % 2, by omega⟩ = n :=
    Fin.ext (by show 2 * ((16 * b.val + n.val / 2) % 16) + n.val % 2 = n.val; omega)
  rw [eb, en] at e
  exact e

/-- The value claim: on the ideal numbers both end with the same array. -/
theorem algebraic : Cert.algebraic_KernelIdeal_ReferenceIdeal := by
  intro m g m' g' hp h
  refine ⟨fun c => Value.G15 m c, ?_, ?_⟩
  · refine (θ_run defs _ _).mono (fun r hr c => ?_) (Value.run (F := Ideal) m g)
    exact ⟨(hr c).1, (hr c).2.2.2.2⟩
  · refine (θ_run Cert.ReferenceIdeal.defs _ _).mono (fun r hr c => ?_) (Cert.ReferenceIdeal.Value.run m' g')
    refine ⟨Eq.trans (b := Ref.resultT (StableHlo.launchContents m' c)) (hr c).1 ?_, (hr c).2⟩
    have ea : Ref.argsOf (StableHlo.launchContents m' c) = args m c := by
      obtain ⟨h0, h1, h2, h3, h4, h5, -⟩ := h c
      unfold Ref.argsOf args
      refine congr (congr (congr (congr (congr (congrArg Args.mk ?_) ?_) ?_) ?_) ?_) ?_
      · exact funext fun b => funext fun s => funext fun k => congrFun h0 (ix3 b s k)
      · exact funext fun k => congrFun h1 (ix1 k)
      · exact funext fun k => funext fun d => congrFun h2 (ix2 k d)
      · exact funext fun k => congrFun h3 (ix1 k)
      · exact funext fun k => funext fun d => congrFun h4 (ix2 k d)
      · exact funext fun k => funext fun d => congrFun h5 (ix2 k d)
    funext y
    have hy : (y (1 : Fin 3)).val < 4096 := (y (1 : Fin 3)).isLt
    have ey : y = ix3 (y (0 : Fin 3)) (tok ⟨(y (1 : Fin 3)).val / 128, by omega⟩ ⟨(y (1 : Fin 3)).val % 128, by omega⟩) (y (2 : Fin 3)) := by
      funext a
      match a with
      | ⟨0, _⟩ => rfl
      | ⟨1, _⟩ => exact Fin.ext (by show (y (1 : Fin 3)).val = (y (1 : Fin 3)).val / 128 * 128 + (y (1 : Fin 3)).val % 128; omega)
      | ⟨2, _⟩ => rfl
    rw [ey]
    refine (Ref.resultT_apply (StableHlo.launchContents m' c) _ _ _ _).trans ?_
    rw [ea]
    exact (result_entry m c _ _ _ _).symm

end Cert.Mixer
-- ==== Proof.lean ====
/-
  The claim, put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Mixer.Frames
public import proofs.«01_k».proof.Proof.Mixer.Value

@[expose] public section

namespace Cert.Proof

/-- Every claim: the frames of the kernel at either reading and of the reference, that the two readings are one program,
    and that kernel and reference compute the same array. -/
theorem claim : Cert.Claim :=
  ⟨Cert.Kernel.Gen.facts, Cert.KernelIdeal.Gen.facts, Cert.ReferenceIdeal.Gen.facts,
    Cert.Mixer.frame_kernel, Cert.Mixer.frame_ideal, Cert.Mixer.frame_reference, Cert.Mixer.preserves, Cert.Mixer.algebraic⟩

end Cert.Proof
